-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x56x56x192 : Shape := ⟨4, ![64, 56, 56, 192]⟩
abbrev S192x576 : Shape := ⟨2, ![192, 576]⟩
abbrev S576 : Shape := ⟨1, ![576]⟩
abbrev S192x192 : Shape := ⟨2, ![192, 192]⟩
abbrev S192 : Shape := ⟨1, ![192]⟩
abbrev S169x6 : Shape := ⟨2, ![169, 6]⟩
abbrev S_ : Shape := ⟨0, ![]⟩

class Facts : Prop where
  bcast_S_S64x56x56x192 : S_.BroadcastsInDim S64x56x56x192 (![] : Fin 0 → Fin S64x56x56x192.rank)
  bcast_S_S192x576 : S_.BroadcastsInDim S192x576 (![] : Fin 0 → Fin S192x576.rank)
  bcast_S_S576 : S_.BroadcastsInDim S576 (![] : Fin 0 → Fin S576.rank)
  bcast_S_S169x6 : S_.BroadcastsInDim S169x6 (![] : Fin 0 → Fin S169x6.rank)

variable [Facts]

def fn {F : FTy → Type} [FloatOps F] (main_arg0 : FVec F S64x56x56x192 .f32) (main_arg1 : FVec F S192x576 .f32) (main_arg2 : FVec F S576 .f32) (main_arg3 : FVec F S192x192 .f32) (main_arg4 : FVec F S192 .f32) (main_arg5 : FVec F S169x6 .f32) : IVec S64x56x56x192 1 × IVec S192x576 1 × IVec S576 1 × IVec S169x6 1 :=
  let main_v0 : FVec F S64x56x56x192 .f32 := Host.absf main_arg0
  let main_cst : FVec F S_ .f32 := constant S_ .f32 0x7F800000#32
  let main_v1 : FVec F S64x56x56x192 .f32 := broadcastInDim S64x56x56x192 ![] bcast_S_S64x56x56x192 main_cst
  let main_v2 : IVec S64x56x56x192 1 := cmpf .olt main_v0 main_v1
  let main_v3 : FVec F S192x576 .f32 := Host.absf main_arg1
  let main_cst_0 : FVec F S_ .f32 := constant S_ .f32 0x7F800000#32
  let main_v4 : FVec F S192x576 .f32 := broadcastInDim S192x576 ![] bcast_S_S192x576 main_cst_0
  let main_v5 : IVec S192x576 1 := cmpf .olt main_v3 main_v4
  let main_v6 : FVec F S576 .f32 := Host.absf main_arg2
  let main_cst_1 : FVec F S_ .f32 := constant S_ .f32 0x7F800000#32
  let main_v7 : FVec F S576 .f32 := broadcastInDim S576 ![] bcast_S_S576 main_cst_1
  let main_v8 : IVec S576 1 := cmpf .olt main_v6 main_v7
  let main_v9 : FVec F S169x6 .f32 := Host.absf main_arg5
  let main_cst_2 : FVec F S_ .f32 := constant S_ .f32 0x7F800000#32
  let main_v10 : FVec F S169x6 .f32 := broadcastInDim S169x6 ![] bcast_S_S169x6 main_cst_2
  let main_v11 : IVec S169x6 1 := cmpf .olt main_v9 main_v10
  (main_v2, main_v5, main_v8, main_v11)
-- ==== Kernel.lean ====
abbrev S64x56x56x192 : Shape := ⟨4, ![64, 56, 56, 192]⟩
abbrev S192x576 : Shape := ⟨2, ![192, 576]⟩
abbrev S576 : Shape := ⟨1, ![576]⟩
abbrev S192x192 : Shape := ⟨2, ![192, 192]⟩
abbrev S192 : Shape := ⟨1, ![192]⟩
abbrev S169x6 : Shape := ⟨2, ![169, 6]⟩
abbrev S64x64 : Shape := ⟨2, ![64, 64]⟩
abbrev S4x64x64 : Shape := ⟨3, ![4, 64, 64]⟩
abbrev S384x256 : Shape := ⟨2, ![384, 256]⟩
abbrev S_ : Shape := ⟨0, ![]⟩
abbrev S192x768 : Shape := ⟨2, ![192, 768]⟩
abbrev S1x768 : Shape := ⟨2, ![1, 768]⟩
abbrev S1 : Shape := ⟨1, ![1]⟩
abbrev S2 : Shape := ⟨1, ![2]⟩
abbrev S1x192 : Shape := ⟨2, ![1, 192]⟩
abbrev S64x64x1 : Shape := ⟨3, ![64, 64, 1]⟩
abbrev S64x64x6 : Shape := ⟨3, ![64, 64, 6]⟩
abbrev S6x64x64 : Shape := ⟨3, ![6, 64, 64]⟩
abbrev S4x1x64x64 : Shape := ⟨4, ![4, 1, 64, 64]⟩
abbrev S1x6x64x64 : Shape := ⟨4, ![1, 6, 64, 64]⟩
abbrev S4x6x64x64 : Shape := ⟨4, ![4, 6, 64, 64]⟩
abbrev S4x64x6x64 : Shape := ⟨4, ![4, 64, 6, 64]⟩
abbrev S4x64x384 : Shape := ⟨3, ![4, 64, 384]⟩
abbrev S384x192 : Shape := ⟨2, ![384, 192]⟩
abbrev S2x56x56x192 : Shape := ⟨4, ![2, 56, 56, 192]⟩
abbrev S2x512x768 : Shape := ⟨3, ![2, 512, 768]⟩
abbrev S1x56x56x192 : Shape := ⟨4, ![1, 56, 56, 192]⟩
abbrev S56x56x192 : Shape := ⟨3, ![56, 56, 192]⟩
abbrev S1x56x192 : Shape := ⟨3, ![1, 56, 192]⟩
abbrev S56x192 : Shape := ⟨2, ![56, 192]⟩
abbrev S53x192 : Shape := ⟨2, ![53, 192]⟩
abbrev S11x192 : Shape := ⟨2, ![11, 192]⟩
abbrev S64x192 : Shape := ⟨2, ![64, 192]⟩
abbrev S8x192 : Shape := ⟨2, ![8, 192]⟩
abbrev S512x192 : Shape := ⟨2, ![512, 192]⟩
abbrev S512x768 : Shape := ⟨2, ![512, 768]⟩
abbrev S1x512x768 : Shape := ⟨3, ![1, 512, 768]⟩
abbrev S64x256 : Shape := ⟨2, ![64, 256]⟩
abbrev S64x384 : Shape := ⟨2, ![64, 384]⟩
abbrev S1x64x384 : Shape := ⟨3, ![1, 64, 384]⟩
abbrev S384x448 : Shape := ⟨2, ![384, 448]⟩
abbrev S64x448 : Shape := ⟨2, ![64, 448]⟩
abbrev S8x8x8x192 : Shape := ⟨4, ![8, 8, 8, 192]⟩
abbrev S8x1x8x192 : Shape := ⟨4, ![8, 1, 8, 192]⟩
abbrev S8x8x192 : Shape := ⟨3, ![8, 8, 192]⟩
abbrev S7x192 : Shape := ⟨2, ![7, 192]⟩
abbrev S3x192 : Shape := ⟨2, ![3, 192]⟩

abbrev nBuf : Space → Nat
  | .hbm => 76
  | .vmem => 12
  | .smem => 0
  | _ => 0

abbrev bufTy : (tb : Table) → Fin (tcTables nBuf tb) → BufTy
  | .hbm, ⟨0, _⟩ => ⟨S64x56x56x192, .f32⟩
  | .hbm, ⟨1, _⟩ => ⟨S192x576, .f32⟩
  | .hbm, ⟨2, _⟩ => ⟨S576, .f32⟩
  | .hbm, ⟨3, _⟩ => ⟨S192x192, .f32⟩
  | .hbm, ⟨4, _⟩ => ⟨S192, .f32⟩
  | .hbm, ⟨5, _⟩ => ⟨S169x6, .f32⟩
  | .hbm, ⟨6, _⟩ => ⟨S64x64, .i32⟩
  | .hbm, ⟨7, _⟩ => ⟨S4x64x64, .f32⟩
  | .hbm, ⟨8, _⟩ => ⟨S384x256, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S192x768, .f32⟩
  | .hbm, ⟨14, _⟩ => ⟨S_, .f32⟩
  | .hbm, ⟨15, _⟩ => ⟨S1x768, .f32⟩
  | .hbm, ⟨16, _⟩ => ⟨S192x192, .f32⟩
  | .hbm, ⟨17, _⟩ => ⟨S192x192, .f32⟩
  | .hbm, ⟨18, _⟩ => ⟨S192x192, .f32⟩
  | .hbm, ⟨19, _⟩ => ⟨S_, .i32⟩
  | .hbm, ⟨20, _⟩ => ⟨S1, .i32⟩
  | .hbm, ⟨21, _⟩ => ⟨S192x768, .f32⟩
  | .hbm, ⟨22, _⟩ => ⟨S192, .f32⟩
  | .hbm, ⟨23, _⟩ => ⟨S192, .f32⟩
  | .hbm, ⟨24, _⟩ => ⟨S192, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x768, .f32⟩
  | .hbm, ⟨31, _⟩ => ⟨S192x192, .f32⟩
  | .hbm, ⟨32, _⟩ => ⟨S_, .i32⟩
  | .hbm, ⟨33, _⟩ => ⟨S1, .i32⟩
  | .hbm, ⟨34, _⟩ => ⟨S192x768, .f32⟩
  | .hbm, ⟨35, _⟩ => ⟨S192, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S1x768, .f32⟩
  | .hbm, ⟨42, _⟩ => ⟨S192x192, .f32⟩
  | .hbm, ⟨43, _⟩ => ⟨S_, .i32⟩
  | .hbm, ⟨44, _⟩ => ⟨S1, .i32⟩
  | .hbm, ⟨45, _⟩ => ⟨S192x768, .f32⟩
  | .hbm, ⟨46, _⟩ => ⟨S192, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S1x768, .f32⟩
  | .hbm, ⟨53, _⟩ => ⟨S192x768, .bf16⟩
  | .hbm, ⟨54, _⟩ => ⟨S192x192, .bf16⟩
  | .hbm, ⟨55, _⟩ => ⟨S1x192, .f32⟩
  | .hbm, ⟨56, _⟩ => ⟨S_, .i32⟩
  | .hbm, ⟨57, _⟩ => ⟨S64x64, .i32⟩
  | .hbm, ⟨58, _⟩ => ⟨S64x64, .i1⟩
  | .hbm, ⟨59, _⟩ => ⟨S_, .i32⟩
  | .hbm, ⟨60, _⟩ => ⟨S64x64, .i32⟩
  | .hbm, ⟨61, _⟩ => ⟨S64x64, .i32⟩
  | .hbm, ⟨62, _⟩ => ⟨S64x64, .i32⟩
  | .hbm, ⟨63, _⟩ => ⟨S64x64x1, .i32⟩
  | .hbm, ⟨64, _⟩ => ⟨S64x64x6, .f32⟩
  | .hbm, ⟨65, _⟩ => ⟨S6x64x64, .f32⟩
  | .hbm, ⟨66, _⟩ => ⟨S4x1x64x64, .f32⟩
  | .hbm, ⟨67, _⟩ => ⟨S1x6x64x64, .f32⟩
  | .hbm, ⟨68, _⟩ => ⟨S4x6x64x64, .f32⟩
  | .hbm, ⟨69, _⟩ => ⟨S4x6x64x64, .f32⟩
  | .hbm, ⟨70, _⟩ => ⟨S4x6x64x64, .f32⟩
  | .hbm, ⟨71, _⟩ => ⟨S4x64x6x64, .f32⟩
  | .hbm, ⟨72, _⟩ => ⟨S4x64x384, .f32⟩
  | .hbm, ⟨73, _⟩ => ⟨S384x256, .bf16⟩
  | .hbm, ⟨74, _⟩ => ⟨S384x192, .bf16⟩
  | .hbm, ⟨75, _⟩ => ⟨S64x56x56x192, .f32⟩
  | .local _ .vmem, ⟨0, _⟩ => ⟨S2x56x56x192, .f32⟩
  | .local _ .vmem, ⟨1, _⟩ => ⟨S2x56x56x192, .f32⟩
  | .local _ .vmem, ⟨2, _⟩ => ⟨S192x768, .bf16⟩
  | .local _ .vmem, ⟨3, _⟩ => ⟨S1x768, .f32⟩
  | .local _ .vmem, ⟨4, _⟩ => ⟨S192x192, .bf16⟩
  | .local _ .vmem, ⟨5, _⟩ => ⟨S1x192, .f32⟩
  | .local _ .vmem, ⟨6, _⟩ => ⟨S4x64x384, .f32⟩
  | .local _ .vmem, ⟨7, _⟩ => ⟨S384x256, .bf16⟩
  | .local _ .vmem, ⟨8, _⟩ => ⟨S384x192, .bf16⟩
  | .local _ .vmem, ⟨9, _⟩ => ⟨S2x56x56x192, .f32⟩
  | .local _ .vmem, ⟨10, _⟩ => ⟨S2x56x56x192, .f32⟩
  | .local _ .vmem, ⟨11, _⟩ => ⟨S2x512x768, .bf16⟩
  | _, _ => ⟨S64x56x56x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_v0 : Ref sig .tc := ⟨.hbm, 11, rfl⟩
abbrev main_cst_3 : Ref sig .tc := ⟨.hbm, 12, rfl⟩
abbrev main_v1 : Ref sig .tc := ⟨.hbm, 13, rfl⟩
abbrev main_cst_4 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_6 : Ref sig .tc := ⟨.hbm, 25, rfl⟩
abbrev main_v11 : Ref sig .tc := ⟨.hbm, 26, rfl⟩
abbrev main_c_7 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_8 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_9 : Ref sig .tc := ⟨.hbm, 36, rfl⟩
abbrev main_v19 : Ref sig .tc := ⟨.hbm, 37, rfl⟩
abbrev main_c_10 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_11 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_12 : Ref sig .tc := ⟨.hbm, 47, rfl⟩
abbrev main_v27 : Ref sig .tc := ⟨.hbm, 48, rfl⟩
abbrev main_c_13 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_14 : Ref sig .tc := ⟨.hbm, 56, rfl⟩
abbrev main_v34 : Ref sig .tc := ⟨.hbm, 57, rfl⟩
abbrev main_v35 : Ref sig .tc := ⟨.hbm, 58, rfl⟩
abbrev main_c_15 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x56x56x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x64x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x56x56x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S64x56x56x192 : Shape := ⟨4, ![64, 56, 56, 192]⟩
abbrev S192x576 : Shape := ⟨2, ![192, 576]⟩
abbrev S576 : Shape := ⟨1, ![576]⟩
abbrev S192x192 : Shape := ⟨2, ![192, 192]⟩
abbrev S192 : Shape := ⟨1, ![192]⟩
abbrev S169x6 : Shape := ⟨2, ![169, 6]⟩
abbrev S49 : Shape := ⟨1, ![49]⟩
abbrev S_ : Shape := ⟨0, ![]⟩
abbrev S49x1 : Shape := ⟨2, ![49, 1]⟩
abbrev S1x49 : Shape := ⟨2, ![1, 49]⟩
abbrev S49x49 : Shape := ⟨2, ![49, 49]⟩
abbrev S49x49x1 : Shape := ⟨3, ![49, 49, 1]⟩
abbrev S49x49x6 : Shape := ⟨3, ![49, 49, 6]⟩
abbrev S6x49x49 : Shape := ⟨3, ![6, 49, 49]⟩
abbrev S56 : Shape := ⟨1, ![56]⟩
abbrev S56x1 : Shape := ⟨2, ![56, 1]⟩
abbrev S1x56 : Shape := ⟨2, ![1, 56]⟩
abbrev S56x56 : Shape := ⟨2, ![56, 56]⟩
abbrev S8x7x8x7 : Shape := ⟨4, ![8, 7, 8, 7]⟩
abbrev S8x8x7x7 : Shape := ⟨4, ![8, 8, 7, 7]⟩
abbrev S64x49 : Shape := ⟨2, ![64, 49]⟩
abbrev S64x1x49 : Shape := ⟨3, ![64, 1, 49]⟩
abbrev S64x49x1 : Shape := ⟨3, ![64, 49, 1]⟩
abbrev S64x49x49 : Shape := ⟨3, ![64, 49, 49]⟩
abbrev S64x53x56x192 : Shape := ⟨4, ![64, 53, 56, 192]⟩
abbrev S64x3x56x192 : Shape := ⟨4, ![64, 3, 56, 192]⟩
abbrev S64x56x53x192 : Shape := ⟨4, ![64, 56, 53, 192]⟩
abbrev S64x56x3x192 : Shape := ⟨4, ![64, 56, 3, 192]⟩
abbrev S64x8x7x8x7x192 : Shape := ⟨6, ![64, 8, 7, 8, 7, 192]⟩
abbrev S64x8x8x7x7x192 : Shape := ⟨6, ![64, 8, 8, 7, 7, 192]⟩
abbrev S64x64x49x192 : Shape := ⟨4, ![64, 64, 49, 192]⟩
abbrev S64x64x49x576 : Shape := ⟨4, ![64, 64, 49, 576]⟩
abbrev S1x1x1x576 : Shape := ⟨4, ![1, 1, 1, 576]⟩
abbrev S64x64x49x3x6x32 : Shape := ⟨6, ![64, 64, 49, 3, 6, 32]⟩
abbrev S64x64x49x1x6x32 : Shape := ⟨6, ![64, 64, 49, 1, 6, 32]⟩
abbrev S64x64x49x6x32 : Shape := ⟨5, ![64, 64, 49, 6, 32]⟩
abbrev S64x64x6x49x49 : Shape := ⟨5, ![64, 64, 6, 49, 49]⟩
abbrev S1x1x6x49x49 : Shape := ⟨5, ![1, 1, 6, 49, 49]⟩
abbrev S1x64x1x49x49 : Shape := ⟨5, ![1, 64, 1, 49, 49]⟩
abbrev S64x64x6x49 : Shape := ⟨4, ![64, 64, 6, 49]⟩
abbrev S64x64x6x49x1 : Shape := ⟨5, ![64, 64, 6, 49, 1]⟩
abbrev S64x64x6x32x49 : Shape := ⟨5, ![64, 64, 6, 32, 49]⟩
abbrev S1x1x1x192 : Shape := ⟨4, ![1, 1, 1, 192]⟩

abbrev nBuf : Space → Nat
  | .hbm => 190
  | .vmem => 0
  | .smem => 0
  | _ => 0

abbrev hbmTy0_0 (i : Nat) : BufTy := match i % 128 with
  | 0 => ⟨S64x56x56x192, .f32⟩
  | 1 => ⟨S192x576, .f32⟩
  | 2 => ⟨S576, .f32⟩
  | 3 => ⟨S192x192, .f32⟩
  | 4 => ⟨S192, .f32⟩
  | 5 => ⟨S169x6, .f32⟩
  | 6 => ⟨S49, .i32⟩
  | 7 => ⟨S_, .i32⟩
  | 8 => ⟨S_, .i32⟩
  | 9 => ⟨S49, .i32⟩
  | 10 => ⟨S49, .i32⟩
  | 11 => ⟨S49, .i32⟩
  | 12 => ⟨S_, .i32⟩
  | 13 => ⟨S49, .i32⟩
  | 14 => ⟨S49, .i1⟩
  | 15 => ⟨S49, .i32⟩
  | 16 => ⟨S49, .i32⟩
  | 17 => ⟨S_, .i32⟩
  | 18 => ⟨S49, .i32⟩
  | 19 => ⟨S49, .i1⟩
  | 20 => ⟨S49, .i1⟩
  | 21 => ⟨S_, .i32⟩
  | 22 => ⟨S49, .i32⟩
  | 23 => ⟨S49, .i32⟩
  | 24 => ⟨S49, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S49, .i32⟩
  | 32 => ⟨S49, .i32⟩
  | 33 => ⟨S_, .i32⟩
  | 34 => ⟨S49, .i32⟩
  | 35 => ⟨S49, .i1⟩
  | 36 => ⟨S_, .i32⟩
  | 37 => ⟨S49, .i32⟩
  | 38 => ⟨S49, .i1⟩
  | 39 => ⟨S_, .i32⟩
  | 40 => ⟨S_, .i1⟩
  | 41 => ⟨S49, .i1⟩
  | 42 => ⟨S49, .i1⟩
  | 43 => ⟨S49, .i1⟩
  | 44 => ⟨S49, .i32⟩
  | 45 => ⟨S49, .i32⟩
  | 46 => ⟨S49, .i32⟩
  | 47 => ⟨S49x1, .i32⟩
  | 48 => ⟨S1x49, .i32⟩
  | 49 => ⟨S49x49, .i32⟩
  | 50 => ⟨S49x49, .i32⟩
  | 51 => ⟨S49x49, .i32⟩
  | 52 => ⟨S_, .i32⟩
  | 53 => ⟨S49x49, .i32⟩
  | 54 => ⟨S49x49, .i32⟩
  | 55 => ⟨S_, .i32⟩
  | 56 => ⟨S49x49, .i32⟩
  | 57 => ⟨S49x49, .i32⟩
  | 58 => ⟨S_, .i32⟩
  | 59 => ⟨S49x49, .i32⟩
  | 60 => ⟨S49x49, .i32⟩
  | 61 => ⟨S49x1, .i32⟩
  | 62 => ⟨S1x49, .i32⟩
  | 63 => ⟨S49x49, .i32⟩
  | 64 => ⟨S49x49, .i32⟩
  | 65 => ⟨S49x49, .i32⟩
  | 66 => ⟨S_, .i32⟩
  | 67 => ⟨S49x49, .i32⟩
  | 68 => ⟨S49x49, .i32⟩
  | 69 => ⟨S_, .i32⟩
  | 70 => ⟨S49x49, .i32⟩
  | 71 => ⟨S49x49, .i32⟩
  | 72 => ⟨S49x49, .i32⟩
  | 73 => ⟨S_, .i32⟩
  | 74 => ⟨S49x49, .i32⟩
  | 75 => ⟨S49x49, .i1⟩
  | 76 => ⟨S_, .i32⟩
  | 77 => ⟨S49x49, .i32⟩
  | 78 => ⟨S49x49, .i32⟩
  | 79 => ⟨S49x49, .i32⟩
  | 80 => ⟨S49x49x1, .i32⟩
  | 81 => ⟨S49x49x6, .f32⟩
  | 82 => ⟨S6x49x49, .f32⟩
  | 83 => ⟨S56, .i32⟩
  | 84 => ⟨S_, .i32⟩
  | 85 => ⟨S56, .i32⟩
  | 86 => ⟨S56, .i1⟩
  | 87 => ⟨S56, .i32⟩
  | 88 => ⟨S_, .i32⟩
  | 89 => ⟨S56, .i32⟩
  | 90 => ⟨S56, .i1⟩
  | 91 => ⟨S56, .i32⟩
  | 92 => ⟨S56, .i32⟩
  | 93 => ⟨S56x1, .i32⟩
  | 94 => ⟨S_, .i32⟩
  | 95 => ⟨S56x1, .i32⟩
  | 96 => ⟨S56x1, .i32⟩
  | 97 => ⟨S56, .i32⟩
  | 98 => ⟨S_, .i32⟩
  | 99 => ⟨S56, .i32⟩
  | 100 => ⟨S56, .i1⟩
  | 101 => ⟨S56, .i32⟩
  | 102 => ⟨S_, .i32⟩
  | 103 => ⟨S56, .i32⟩
  | 104 => ⟨S56, .i1⟩
  | 105 => ⟨S56, .i32⟩
  | 106 => ⟨S56, .i32⟩
  | 107 => ⟨S1x56, .i32⟩
  | 108 => ⟨S56x56, .i32⟩
  | 109 => ⟨S56x56, .i32⟩
  | 110 => ⟨S56x56, .i32⟩
  | 111 => ⟨S8x7x8x7, .i32⟩
  | 112 => ⟨S8x8x7x7, .i32⟩
  | 113 => ⟨S64x49, .i32⟩
  | 114 => ⟨S64x1x49, .i32⟩
  | 115 => ⟨S64x49x1, .i32⟩
  | 116 => ⟨S64x49x49, .i32⟩
  | 117 => ⟨S64x49x49, .i32⟩
  | 118 => ⟨S64x49x49, .i32⟩
  | 119 => ⟨S_, .i32⟩
  | 120 => ⟨S64x49x49, .i32⟩
  | 121 => ⟨S64x49x49, .i1⟩
  | 122 => ⟨S_, .f32⟩
  | 123 => ⟨S_, .f32⟩
  | 124 => ⟨S64x49x49, .f32⟩
  | 125 => ⟨S64x49x49, .f32⟩
  | 126 => ⟨S64x49x49, .f32⟩
  | 127 => ⟨S64x49x49, .f32⟩
  | _ => ⟨S64x56x56x192, .f32⟩

abbrev hbmTy0_1 (i : Nat) : BufTy := match i % 128 with
  | 0 => ⟨S64x53x56x192, .f32⟩
  | 1 => ⟨S64x3x56x192, .f32⟩
  | 2 => ⟨S64x56x56x192, .f32⟩
  | 3 => ⟨S64x56x53x192, .f32⟩
  | 4 => ⟨S64x56x3x192, .f32⟩
  | 5 => ⟨S64x56x56x192, .f32⟩
  | 6 => ⟨S64x8x7x8x7x192, .f32⟩
  | 7 => ⟨S64x8x8x7x7x192, .f32⟩
  | 8 => ⟨S64x64x49x192, .f32⟩
  | 9 => ⟨S64x64x49x576, .f32⟩
  | 10 => ⟨S1x1x1x576, .f32⟩
  | 11 => ⟨S64x64x49x576, .f32⟩
  | 12 => ⟨S64x64x49x576, .f32⟩
  | 13 => ⟨S64x64x49x3x6x32, .f32⟩
  | 14 => ⟨S64x64x49x1x6x32, .f32⟩
  | 15 => ⟨S64x64x49x6x32, .f32⟩
  | 16 => ⟨S_, .f32⟩
  | 17 => ⟨S_, .f32⟩
  | 18 => ⟨S_, .f32⟩
  | 19 => ⟨S64x64x49x6x32, .f32⟩
  | 20 => ⟨S64x64x49x6x32, .f32⟩
  | 21 => ⟨S64x64x49x1x6x32, .f32⟩
  | 22 => ⟨S64x64x49x6x32, .f32⟩
  | 23 => ⟨S64x64x49x1x6x32, .f32⟩
  | 24 => ⟨S64x64x49x6x32, .f32⟩
  | 25 => ⟨S64x64x6x49x49, .f32⟩
  | 26 => ⟨S1x1x6x49x49, .f32⟩
  | 27 => ⟨S64x64x6x49x49, .f32⟩
  | 28 => ⟨S64x64x6x49x49, .f32⟩
  | 29 => ⟨S1x64x1x49x49, .f32⟩
  | 30 => ⟨S64x64x6x49x49, .f32⟩
  | 31 => ⟨S64x64x6x49x49, .f32⟩
  | 32 => ⟨S_, .f32⟩
  | 33 => ⟨S64x64x6x49, .f32⟩
  | 34 => ⟨S_, .f32⟩
  | 35 => ⟨S64x64x6x49, .f32⟩
  | 36 => ⟨S64x64x6x49, .f32⟩
  | 37 => ⟨S64x64x6x49x1, .f32⟩
  | 38 => ⟨S64x64x6x49x49, .f32⟩
  | 39 => ⟨S64x64x6x49x49, .f32⟩
  | 40 => ⟨S64x64x6x49x49, .f32⟩
  | 41 => ⟨S_, .f32⟩
  | 42 => ⟨S64x64x6x49, .f32⟩
  | 43 => ⟨S64x64x6x49x1, .f32⟩
  | 44 => ⟨S64x64x6x49x49, .f32⟩
  | 45 => ⟨S64x64x6x49x49, .f32⟩
  | 46 => ⟨S64x64x6x32x49, .f32⟩
  | 47 => ⟨S64x64x49x6x32, .f32⟩
  | 48 => ⟨S64x64x49x192, .f32⟩
  | 49 => ⟨S64x64x49x192, .f32⟩
  | 50 => ⟨S1x1x1x192, .f32⟩
  | 51 => ⟨S64x64x49x192, .f32⟩
  | 52 => ⟨S64x64x49x192, .f32⟩
  | 53 => ⟨S64x8x8x7x7x192, .f32⟩
  | 54 => ⟨S64x8x7x8x7x192, .f32⟩
  | 55 => ⟨S64x56x56x192, .f32⟩
  | 56 => ⟨S64x3x56x192, .f32⟩
  | 57 => ⟨S64x53x56x192, .f32⟩
  | 58 => ⟨S64x56x56x192, .f32⟩
  | 59 => ⟨S64x56x3x192, .f32⟩
  | 60 => ⟨S64x56x53x192, .f32⟩
  | 61 => ⟨S64x56x56x192, .f32⟩
  | _ => ⟨S64x56x56x192, .f32⟩

abbrev hbmTy (i : Nat) : BufTy := match i / 128 with
  | 0 => hbmTy0_0 i
  | 1 => hbmTy0_1 i
  | _ => ⟨S64x56x56x192, .f32⟩

abbrev bufTy : (tb : Table) → Fin (tcTables nBuf tb) → BufTy
  | .hbm, ⟨i, _⟩ => hbmTy i
  | _, _ => ⟨S64x56x56x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_c_1 : Ref sig .tc := ⟨.hbm, 52, rfl⟩
abbrev main_v8 : Ref sig .tc := ⟨.hbm, 53, rfl⟩
abbrev main_v9 : Ref sig .tc := ⟨.hbm, 54, rfl⟩
abbrev main_c_2 : Ref sig .tc := ⟨.hbm, 55, rfl⟩
abbrev main_v10 : Ref sig .tc := ⟨.hbm, 56, rfl⟩
abbrev main_v11 : Ref sig .tc := ⟨.hbm, 57, rfl⟩
abbrev main_c_3 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_c_4 : Ref sig .tc := ⟨.hbm, 66, rfl⟩
abbrev main_v19 : Ref sig .tc := ⟨.hbm, 67, rfl⟩
abbrev main_v20 : Ref sig .tc := ⟨.hbm, 68, rfl⟩
abbrev main_c_5 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_c_6 : Ref sig .tc := ⟨.hbm, 73, rfl⟩
abbrev main_v24 : Ref sig .tc := ⟨.hbm, 74, rfl⟩
abbrev main_v25 : Ref sig .tc := ⟨.hbm, 75, rfl⟩
abbrev main_c_7 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_c_8 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_c_9 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_c_10 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_c_11 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_c_12 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_c_13 : Ref sig .tc := ⟨.hbm, 119, rfl⟩
abbrev main_v63 : Ref sig .tc := ⟨.hbm, 120, rfl⟩
abbrev main_v64 : Ref sig .tc := ⟨.hbm, 121, rfl⟩
abbrev main_cst : Ref sig .tc := ⟨.hbm, 122, rfl⟩
abbrev main_cst_14 : Ref sig .tc := ⟨.hbm, 123, rfl⟩
abbrev main_call2_v0 : Ref sig .tc := ⟨.hbm, 124, rfl⟩
abbrev main_call2_v1 : Ref sig .tc := ⟨.hbm, 125, rfl⟩
abbrev main_v65 : Ref sig .tc := ⟨.hbm, 126, rfl⟩
abbrev main_v66 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_cst_15 : Ref sig .tc := ⟨.hbm, 144, rfl⟩
abbrev main_cst_16 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_cst_17 : Ref sig .tc := ⟨.hbm, 160, rfl⟩
abbrev main_v92 : Ref sig .tc := ⟨.hbm, 161, rfl⟩
abbrev main_cst_18 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_cst_19 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_call4_v0 : Ref sig .tc := ⟨.hbm, 184, rfl⟩
abbrev main_call4_v1 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_v113 : Ref sig .tc := ⟨.hbm, 189, rfl⟩

abbrev nD : Nat := 1
abbrev τ : Topo := Topo.v7x

variable {F : FTy → Type} [FloatOps F]
-- ==== Proof.Run.lean ====
/- The idealized kernel's run with its result array named: the generated frame certificate's proof data, obligation and
   launch, over the generated run of the body (Frame/RunA.lean), and the result array block by block. -/
module

public import proofs.«01_k».proof.Proof.Gen.KernelIdeal.Frame.RunA
public import Idealize.ShloMosaic.Lib.Claim
public import Idealize.ShloMosaic.Lib.Pipeline.Value

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 8 tile its block (112 stores of `S1x1x56x192`, checked by the kernel's evaluation: Lib/Ring.lean `Piece.tiledL`, linear in the pieces, through a loop's `@[irreducible]` trip theorem too), so they cover it. -/
theorem cover0_A_8 (c : Dev nD) (i : grid0.Coords) (arg1 : Memref sig .tc .vmem S2x56x56x192 .f32) (harg1 : arg1.IsWhole) (arg2 : Memref sig .tc .vmem S192x768 .bf16) (harg2 : arg2.IsWhole) (arg3 : Memref sig .tc .vmem S1x768 .f32) (harg3 : arg3.IsWhole) (arg4 : Memref sig .tc .vmem S192x192 .bf16) (harg4 : arg4.IsWhole) (arg5 : Memref sig .tc .vmem S1x192 .f32) (harg5 : arg5.IsWhole) (arg6 : Memref sig .tc .vmem S4x64x384 .f32) (harg6 : arg6.IsWhole) (arg7 : Memref sig .tc .vmem S384x256 .bf16) (harg7 : arg7.IsWhole) (arg8 : Memref sig .tc .vmem S384x192 .bf16) (harg8 : arg8.IsWhole) (arg9 : Memref sig .tc .vmem S2x56x56x192 .f32) (harg9 : arg9.IsWhole) (arg10 : Memref sig .tc .vmem S2x512x768 .bf16) (harg10 : arg10.IsWhole)
    (x0 : Vec F S2x56x56x192 .f32) (x1 : Vec F S192x768 .bf16) (x2 : Vec F S1x768 .f32) (x3 : Vec F S192x192 .bf16) (x4 : Vec F S1x192 .f32) (x5 : Vec F S4x64x384 .f32) (x6 : Vec F S384x256 .bf16) (x7 : Vec F S384x192 .bf16) (y : S2x56x56x192.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5 x6 x7).1 ![1, 1, 56, 192] (by sl_kernel_rfl) y

/-- What the run leaves in output 8's staging buffer: its pieces read back over junk. -/
def out0_A_8 (c : Dev nD) (i : grid0.Coords) (arg1 : Memref sig .tc .vmem S2x56x56x192 .f32) (harg1 : arg1.IsWhole) (arg2 : Memref sig .tc .vmem S192x768 .bf16) (harg2 : arg2.IsWhole) (arg3 : Memref sig .tc .vmem S1x768 .f32) (harg3 : arg3.IsWhole) (arg4 : Memref sig .tc .vmem S192x192 .bf16) (harg4 : arg4.IsWhole) (arg5 : Memref sig .tc .vmem S1x192 .f32) (harg5 : arg5.IsWhole) (arg6 : Memref sig .tc .vmem S4x64x384 .f32) (harg6 : arg6.IsWhole) (arg7 : Memref sig .tc .vmem S384x256 .bf16) (harg7 : arg7.IsWhole) (arg8 : Memref sig .tc .vmem S384x192 .bf16) (harg8 : arg8.IsWhole) (arg9 : Memref sig .tc .vmem S2x56x56x192 .f32) (harg9 : arg9.IsWhole) (arg10 : Memref sig .tc .vmem S2x512x768 .bf16) (harg10 : arg10.IsWhole)
    (x0 : Vec F S2x56x56x192 .f32) (x1 : Vec F S192x768 .bf16) (x2 : Vec F S1x768 .f32) (x3 : Vec F S192x192 .bf16) (x4 : Vec F S1x192 .f32) (x5 : Vec F S4x64x384 .f32) (x6 : Vec F S384x256 .bf16) (x7 : Vec F S384x192 .bf16) : Vec F S2x56x56x192 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 x0 x1 x2 x3 x4 x5 x6 x7).1)

/-! ## What the outputs hold after each point -/

/-- What the outputs' staging buffers hold after the body at point `t`: the run's contents at
    the point's memrefs and input blocks. -/
def outsAt0 (c : Dev nD) (t : Fin cfg0.N) : Vec F S2x56x56x192 .f32 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_8
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, ⟨%e8, H8⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Whole.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Whole

end
-- ==== Proof.Frames.lean ====
/- The frame claims of the kernel, the ideal kernel and the ideal reference: each runs, leaves its arguments alone and
   ends with every counter at zero. -/
module

public import proofs.«01_k».proof.Defs
public import proofs.«01_k».proof.Proof.RunBits
public import proofs.«01_k».proof.Proof.Run
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Frames

open Idealize.ShloMosaic Idealize.SL.Sem

/-- The frame of the reference at the ideal instance: it has no semaphore, so no counter can be left up. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Frames

end
-- ==== Proof.Model.lean ====
/- Shifted-window attention at an index, over the extended reals: the one formula to which both programs are read. -/
module

public import Idealize.ShloMosaic.Lib.Pointwise

@[expose] public section

set_option maxRecDepth 16384

noncomputable section

namespace Cert.Swin

open Idealize.ShloMosaic

/-- The image array's indices, the projection's, and the other arguments'. -/
abbrev Img : Shape := ⟨4, ![64, 56, 56, 192]⟩
abbrev WQkv : Shape := ⟨2, ![192, 576]⟩
abbrev BQkv : Shape := ⟨1, ![576]⟩
abbrev WProj : Shape := ⟨2, ![192, 192]⟩
abbrev BProj : Shape := ⟨1, ![192]⟩
abbrev Table : Shape := ⟨2, ![169, 6]⟩

/-- The pixel coordinate, along one axis, of position `i` of window `a`, in the image before the roll by 3. -/
def pix (a i : Nat) : Fin 56 := ⟨(7 * a + i + 3) % 56, Nat.mod_lt _ (by omega)⟩

/-- Column `o` of the affine map applied to the pixel `(r, s)` of image `b`. -/
def lin (x : Img.Idx → EReal) (W : WQkv.Idx → EReal) (B : BQkv.Idx → EReal) (b : Fin 64) (r s : Fin 56) (o : Fin 576) : EReal :=
  (∑ c : Fin 192, x (ix4 b r s c) * W (ix2 c o)) + B (ix1 o)

/-- The column of the affine map that holds part `k` (0 the queries, 1 the keys, 2 the values) of channel `d` of head `h`. -/
def chan (k : Fin 3) (h : Fin 6) (d : Fin 32) : Fin 576 := ⟨192 * k.val + 32 * h.val + d.val, by omega⟩

/-- The row of the bias table for the pair of positions `p`, `p'` of a window. -/
def rel (p p' : Fin 49) : Fin 169 :=
  ⟨(p.val / 7 + 6 - p'.val / 7) * 13 + (p.val % 7 + 6 - p'.val % 7), by omega⟩

/-- The region id of pixel `p` along one axis of the rolled image. -/
def region (p : Nat) : Nat := (if 49 ≤ p then 1 else 0) + (if 53 ≤ p then 1 else 0)

/-- The region id of position `p` of window `w`. -/
def regionOf (w : Fin 64) (p : Fin 49) : Nat :=
  3 * region (7 * (w.val / 8) + p.val / 7) + region (7 * (w.val % 8) + p.val % 7)

/-- The scale of the scores, the power that both programs print. -/
def scale : EReal := Ideal.pow (Ideal.ofBits .f32 0x42000000#32) (Ideal.ofBits .f32 0xBF000000#32)

section Attention

variable (x : Img.Idx → EReal) (W : WQkv.Idx → EReal) (B : BQkv.Idx → EReal) (T : Table.Idx → EReal) (PW : WProj.Idx → EReal) (PB : BProj.Idx → EReal)

/-- Part `k` of channel `d` of head `h`, at position `p` of window `w` of image `b`. -/
def qkvAt (b w : Fin 64) (p : Fin 49) (k : Fin 3) (h : Fin 6) (d : Fin 32) : EReal :=
  lin x W B b (pix (w.val / 8) (p.val / 7)) (pix (w.val % 8) (p.val % 7)) (chan k h d)

/-- The score of the pair of positions `p`, `p'`: scaled product, bias, mask. -/
def score (b w : Fin 64) (h : Fin 6) (p p' : Fin 49) : EReal :=
  (∑ d : Fin 32, qkvAt x W B b w p 0 h d * scale * qkvAt x W B b w p' 1 h d) + T (ix2 (rel p p') h)
    + (if regionOf w p = regionOf w p' then Ideal.ofBits .f32 0x00000000#32 else Ideal.ofBits .f32 0xC2C80000#32)

/-- The largest score of a query. -/
def top (b w : Fin 64) (h : Fin 6) (p : Fin 49) : EReal :=
  max (Ideal.ofBits .f32 0xFF800000#32)
    (Finset.fold max (Ideal.ofBits .f32 0xFF800000#32) (fun p' : Fin 49 => score x W B T b w h p p') Finset.univ)

/-- The weights of a query before they are normalised. -/
def expAt (b w : Fin 64) (h : Fin 6) (p p' : Fin 49) : EReal := Ideal.exp (score x W B T b w h p p' - top x W B T b w h p)

/-- Channel `c` of the mixed values at position `p`. -/
def mixAt (b w : Fin 64) (p : Fin 49) (c : Fin 192) : EReal :=
  ∑ p' : Fin 49, qkvAt x W B b w p' 2 ⟨c.val / 32, by omega⟩ ⟨c.val % 32, Nat.mod_lt _ (by omega)⟩
    * Ideal.div (expAt x W B T b w ⟨c.val / 32, by omega⟩ p p') (∑ q : Fin 49, expAt x W B T b w ⟨c.val / 32, by omega⟩ p q)

/-- The projected token. -/
def outAt (b w : Fin 64) (p : Fin 49) (c : Fin 192) : EReal :=
  (∑ c' : Fin 192, mixAt x W B T b w p c' * PW (ix2 c' c)) + PB (ix1 c)

/-- The result: at a pixel, the projected token of the window and position it takes in the rolled image. -/
def result (b : Fin 64) (r s : Fin 56) (c : Fin 192) : EReal :=
  outAt x W B T PW PB b ⟨8 * ((r.val + 53) % 56 / 7) + (s.val + 53) % 56 / 7, by omega⟩
    ⟨7 * ((r.val + 53) % 56 % 7) + (s.val + 53) % 56 % 7, by omega⟩ c

end Attention

end Cert.Swin

end
-- ==== Proof.Softmax.lean ====
/- The real arithmetic: a softmax taken with and without the largest score taken off. -/
module

public import proofs.«01_k».proof.Proof.Model
public import Idealize.ShloMosaic.Lib.IdealHost

@[expose] public section

noncomputable section

namespace Cert.Swin

open Idealize.ShloMosaic

/-- A value that is a real number. -/
def IsReal (x : EReal) : Prop := ∃ r : ℝ, x = r

/-- A product of real numbers is one. -/
theorem real_mul {x y : EReal} (hx : IsReal x) (hy : IsReal y) : IsReal (x * y) := by
  obtain ⟨a, rfl⟩ := hx; obtain ⟨b, rfl⟩ := hy
  exact ⟨a * b, (EReal.coe_mul a b).symm⟩

/-- A sum of two real numbers is one. -/
theorem real_add {x y : EReal} (hx : IsReal x) (hy : IsReal y) : IsReal (x + y) := by
  obtain ⟨a, rfl⟩ := hx; obtain ⟨b, rfl⟩ := hy
  exact ⟨a + b, (EReal.coe_add a b).symm⟩

/-- A finite sum of real numbers, taken over the extended reals. -/
theorem coe_sum' {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A finite sum of real numbers is one. -/
theorem real_sum {ι : Type} (S : Finset ι) (f : ι → EReal) (h : ∀ i, IsReal (f i)) : IsReal (∑ i ∈ S, f i) := by
  choose g hg using h
  refine ⟨∑ i ∈ S, g i, ?_⟩
  rw [coe_sum']
  exact Finset.sum_congr rfl fun i _ => hg i

/-- A value whose magnitude is below infinity is a real number. -/
theorem real_lt_top {x : EReal} (h : max x (-x) < ⊤) : IsReal x := by
  have h1 : x < ⊤ := lt_of_le_of_lt (le_max_left _ _) h
  have h2 : -x < ⊤ := lt_of_le_of_lt (le_max_right _ _) h
  induction x with
  | bot => simp at h2
  | top => simp at h1
  | coe r => exact ⟨r, rfl⟩

/-- Of real numbers a sum times a real is the sum of the products. -/
theorem sum_mul_real {ι : Type} (S : Finset ι) (f : ι → EReal) (s : EReal) (h : ∀ i, IsReal (f i)) (hs : IsReal s) : (∑ i ∈ S, f i) * s = ∑ i ∈ S, f i * s := by
  choose g hg using h
  obtain ⟨r, rfl⟩ := hs
  simp only [hg]
  rw [← coe_sum', ← EReal.coe_mul, Finset.sum_mul, coe_sum']
  exact Finset.sum_congr rfl fun i _ => EReal.coe_mul _ _

/-- A real factor goes into a sum of real numbers. -/
theorem add_mul_real {x y s : EReal} (hx : IsReal x) (hy : IsReal y) (hs : IsReal s) : (x + y) * s = x * s + y * s := by
  obtain ⟨a, rfl⟩ := hx; obtain ⟨b, rfl⟩ := hy; obtain ⟨c, rfl⟩ := hs
  rw [← EReal.coe_add, ← EReal.coe_mul, ← EReal.coe_mul, ← EReal.coe_mul, ← EReal.coe_add, add_mul]

/-- A power of real numbers is one. -/
theorem real_pow {x y : EReal} (hx : IsReal x) (hy : IsReal y) : IsReal (Ideal.pow x y) := by
  obtain ⟨a, rfl⟩ := hx; obtain ⟨b, rfl⟩ := hy
  exact ⟨Real.rpow a b, rfl⟩

/-- The scale is a real number. -/
theorem real_scale : IsReal scale := by
  unfold scale
  refine real_pow ⟨32, ?_⟩ ⟨-(1 / 2), ?_⟩
  · simp [Ideal.ofBits, Ideal.ieee, -EReal.coe_mul]; norm_num
  · simp [Ideal.ofBits, Ideal.ieee, -EReal.coe_mul]; norm_num

/-- A sum over 256 columns of a term that is zero off a head's 32. -/
theorem sum_head (f : Fin 256 → EReal) (h : Fin 6) (hf : ∀ c : Fin 256, c.val / 32 ≠ h.val → f c = 0) :
    ∑ c : Fin 256, f c = ∑ d : Fin 32, f ⟨32 * h.val + d.val, by omega⟩ := by
  refine (Fintype.sum_of_injective (fun d : Fin 32 => (⟨32 * h.val + d.val, by omega⟩ : Fin 256)) (fun a b e => Fin.ext ?_) _ _ (fun c hc => hf c fun e => hc ⟨⟨c.val % 32, Nat.mod_lt _ (by omega)⟩, Fin.ext ?_⟩) fun _ => rfl).symm
  · have := congrArg Fin.val e
    simp only [] at this
    omega
  · show 32 * h.val + c.val % 32 = c.val
    omega

/-- The largest of real scores is a real. -/
theorem top_real (s : Fin 49 → ℝ) : ∃ M : ℝ, max (⊥ : EReal) (Finset.fold max ⊥ (fun q => (s q : EReal)) Finset.univ) = M := by
  have key : ∀ S : Finset (Fin 49), S.Nonempty → ∃ M : ℝ, Finset.fold max (⊥ : EReal) (fun q => (s q : EReal)) S = M := by
    intro S hS
    induction hS using Finset.Nonempty.cons_induction with
    | singleton a => exact ⟨s a, by rw [Finset.fold_singleton]; exact max_eq_left bot_le⟩
    | cons a S ha _ ih =>
      obtain ⟨M, hM⟩ := ih
      refine ⟨max (s a) M, ?_⟩
      rw [Finset.fold_cons, hM]
      exact (EReal.coe_strictMono.monotone.map_max).symm
  obtain ⟨M, hM⟩ := key Finset.univ Finset.univ_nonempty
  exact ⟨M, by rw [hM]; exact max_eq_right bot_le⟩

/-- A quotient of real numbers, the divisor not zero. -/
theorem div_real (a b : ℝ) (hb : b ≠ 0) : Ideal.div (a : EReal) (b : EReal) = ((a * b⁻¹ : ℝ) : EReal) := by
  unfold Ideal.div
  rw [if_neg (by exact_mod_cast hb), ← EReal.coe_inv, ← EReal.coe_mul]

/-- The weighted mean, the weights' largest exponent taken off or not. -/
theorem softmax (s v : Fin 49 → ℝ) :
    ∑ q : Fin 49, (v q : EReal) * Ideal.div (Ideal.exp ((s q : EReal) - max ⊥ (Finset.fold max ⊥ (fun q => (s q : EReal)) Finset.univ)))
        (∑ q' : Fin 49, Ideal.exp ((s q' : EReal) - max ⊥ (Finset.fold max ⊥ (fun q => (s q : EReal)) Finset.univ)))
      = Ideal.div (∑ q : Fin 49, Ideal.exp (s q : EReal) * (v q : EReal)) (∑ q : Fin 49, Ideal.exp (s q : EReal)) := by
  obtain ⟨M, hM⟩ := top_real s
  rw [hM]
  have e1 : ∀ r : ℝ, Ideal.exp (r : EReal) = ((Real.exp r : ℝ) : EReal) := fun _ => rfl
  simp only [← EReal.coe_sub, e1, ← EReal.coe_mul, ← coe_sum']
  have pos : ∀ f : Fin 49 → ℝ, (∑ q, Real.exp (f q)) ≠ 0 := fun f => (Finset.sum_pos (fun q _ => Real.exp_pos _) Finset.univ_nonempty).ne'
  rw [div_real _ _ (pos s)]
  simp only [div_real _ _ (pos fun q => s q - M), ← EReal.coe_mul, ← coe_sum']
  refine congrArg _ ?_
  have e2 : ∀ q, Real.exp (s q - M) = Real.exp (s q) * Real.exp (-M) := fun q => by rw [← Real.exp_add, sub_eq_add_neg]
  simp only [e2, ← Finset.sum_mul, mul_inv]
  rw [Finset.sum_mul]
  refine Finset.sum_congr rfl fun q _ => ?_
  have h1 : Real.exp (-M) * (Real.exp (-M))⁻¹ = 1 := mul_inv_cancel₀ (Real.exp_pos _).ne'
  calc v q * (Real.exp (s q) * Real.exp (-M) * ((∑ i, Real.exp (s i))⁻¹ * (Real.exp (-M))⁻¹))
      = Real.exp (s q) * v q * (∑ i, Real.exp (s i))⁻¹ * (Real.exp (-M) * (Real.exp (-M))⁻¹) := by ring
    _ = _ := by rw [h1, mul_one]

end Cert.Swin

end
-- ==== Proof.Finite.lean ====
/- What the precondition gives: arguments that are real numbers. -/
module

public import proofs.«01_k».proof.Pre_finite
public import proofs.«01_k».proof.Proof.Softmax
public import Idealize.ShloMosaic.Lib.IdealHost
public import Idealize.ShloMosaic.Lib.Pipeline.ValueKit

@[expose] public section

set_option maxRecDepth 16384

noncomputable section

namespace Cert.Pre_finite

open Idealize.ShloMosaic Cert.Swin

/-- The broadcasts the predicate writes are of the shapes it says. -/
theorem facts : Facts := ⟨by decide, by decide, by decide, by decide⟩

/-- Where the comparison with infinity answers one, the value is a real number. -/
theorem isReal_of_lt {S : Shape} (a b : FVec Ideal S .f32) (i : S.Idx) (hb : b i = Ideal.ofBits .f32 0x7F800000#32) (h : cmpf .olt (Host.absf a) b i = 1#1) : IsReal (a i) := by
  refine real_lt_top ?_
  have h' : Ideal.cmp .olt (max (a i) (-(a i))) (b i) = 1#1 := h
  have ht : Ideal.ofBits .f32 0x7F800000#32 = (⊤ : EReal) := by
    simp [Ideal.ofBits, Ideal.ieee, -EReal.coe_mul]
  rw [hb, ht] at h'
  by_contra hn
  have h0 : Ideal.cmp .olt (max (a i) (-(a i))) (⊤ : EReal) = 0#1 := by
    show BitVec.ofBool (decide _) = _
    rw [decide_eq_false hn]
    rfl
  rw [h0] at h'
  exact absurd h' (by decide)

/-- The four arrays the predicate compares are real numbers throughout, wherever it holds. -/
theorem isReal {x0 : FVec Ideal S64x56x56x192 .f32} {x1 : FVec Ideal S192x576 .f32} {x2 : FVec Ideal S576 .f32} {x3 : FVec Ideal S192x192 .f32} {x4 : FVec Ideal S192 .f32} {x5 : FVec Ideal S169x6 .f32}
    (h : (@fn facts Ideal _ x0 x1 x2 x3 x4 x5).1 = (fun _ => 1#1) ∧ (@fn facts Ideal _ x0 x1 x2 x3 x4 x5).2.1 = (fun _ => 1#1)
      ∧ (@fn facts Ideal _ x0 x1 x2 x3 x4 x5).2.2.1 = (fun _ => 1#1) ∧ (@fn facts Ideal _ x0 x1 x2 x3 x4 x5).2.2.2 = (fun _ => 1#1)) :
    (∀ i, IsReal (x0 i)) ∧ (∀ i, IsReal (x1 i)) ∧ (∀ i, IsReal (x2 i)) ∧ ∀ i, IsReal (x5 i) :=
  ⟨fun i => isReal_of_lt x0 _ i rfl (congrFun h.1 i), fun i => isReal_of_lt x1 _ i rfl (congrFun h.2.1 i),
    fun i => isReal_of_lt x2 _ i rfl (congrFun h.2.2.1 i), fun i => isReal_of_lt x5 _ i rfl (congrFun h.2.2.2 i)⟩

end Cert.Pre_finite

end
-- ==== Proof.HostV.lean ====
/- The arrays the host hands the kernel, as terms of the arguments. -/
module

public import proofs.«01_k».proof.Proof.Run
public import Idealize.ShloMosaic.Lib.IdealHost

@[expose] public section

set_option maxRecDepth 16384

noncomputable section

namespace Cert.KernelIdeal.Hosted

open Cert.KernelIdeal Cert.KernelIdeal.Gen Idealize.ShloMosaic Idealize.ShloMosaic.TcCoe Idealize.SL.Sem Idealize.ShloMosaic.StableHlo

/-- The queries' scale. -/
def scaleT : FVec Ideal S_ .f32 := Host.powf (constant S_ .f32 0x42000000#32) (constant S_ .f32 0xBF000000#32)

/-- A column at which a third of the weights is written. -/
def colT (w : BitVec 32) : IVec S1 32 := broadcastInDim S1 ![] bcast_S_S1 (constantI S_ 32 w)

/-- The three thirds of the weights, each at a multiple of 256 columns. -/
def weightsT (W : FVec Ideal S192x576 .f32) : FVec Ideal S192x768 .bf16 :=
  truncf .bf16 (Host.scatter scatter_S192x768_S1_S192x192_01_n_1_0 (fun _ b => b)
    (Host.scatter scatter_S192x768_S1_S192x192_01_n_1_0 (fun _ b => b)
      (Host.scatter scatter_S192x768_S1_S192x192_01_n_1_0 (fun _ b => b)
        (broadcastInDim S192x768 ![] bcast_S_S192x768 (constant S_ .f32 0x00000000#32)) (colT 0#32)
        (mulf (extractStridedSlice S192x192 ![0, 0] W slices_S192x576_S192x192_0_0) (broadcastInDim S192x192 ![] bcast_S_S192x192 scaleT)))
      (colT 256#32) (extractStridedSlice S192x192 ![0, 192] W slices_S192x576_S192x192_0_192))
    (colT 512#32) (extractStridedSlice S192x192 ![0, 384] W slices_S192x576_S192x192_0_384)) bitsLt_bf16_f32

/-- The place in the one row at which a third of the biases is written. -/
def placeT (w : BitVec 32) : IVec S2 32 := concatenate S2 0 [⟨S1, colT 0#32⟩, ⟨S1, colT w⟩] concatenates_S1_S1_S2_d0

/-- The three thirds of the biases, each at a multiple of 256 columns. -/
def biasesT (B : FVec Ideal S576 .f32) : FVec Ideal S1x768 .f32 :=
  Host.scatter scatter_S1x768_S2_S192_0_0_01_0 (fun _ b => b)
    (Host.scatter scatter_S1x768_S2_S192_0_0_01_0 (fun _ b => b)
      (Host.scatter scatter_S1x768_S2_S192_0_0_01_0 (fun _ b => b)
        (broadcastInDim S1x768 ![] bcast_S_S1x768 (constant S_ .f32 0x00000000#32)) (placeT 0#32)
        (mulf (extractStridedSlice S192 ![0] B slices_S576_S192_0) (broadcastInDim S192 ![] bcast_S_S192 scaleT)))
      (placeT 256#32) (extractStridedSlice S192 ![192] B slices_S576_S192_192))
    (placeT 512#32) (extractStridedSlice S192 ![384] B slices_S576_S192_384)

/-- The table of relative positions. -/
def relT : IVec S64x64 32 := fun i => lit0 (S64x64.rowMajor i)

/-- The table of masks, by the window's class. -/
def maskT : FVec Ideal S4x64x64 .f32 := fun i => FloatOps.ofBits .f32 (lit1 (S4x64x64.rowMajor i))

/-- The table of the heads' channels. -/
def headT : FVec Ideal S384x256 .f32 := fun i => FloatOps.ofBits .f32 (lit2 (S384x256.rowMajor i))

/-- The mask and the relative bias, with the heads along the keys. -/
def addedT (T : FVec Ideal S169x6 .f32) (R : IVec S64x64 32) (M : FVec Ideal S4x64x64 .f32) : FVec Ideal S4x64x384 .f32 :=
  shapeCast S4x64x384 (transpose S4x64x6x64 [0, 2, 1, 3]
    (addf (broadcastInDim S4x6x64x64 ![0, 1, 2, 3] bcast_S4x1x64x64_S4x6x64x64_0_1_2_3 (broadcastInDim S4x1x64x64 ![0, 2, 3] bcast_S4x64x64_S4x1x64x64_0_2_3 M))
      (broadcastInDim S4x6x64x64 ![0, 1, 2, 3] bcast_S1x6x64x64_S4x6x64x64_0_1_2_3 (broadcastInDim S1x6x64x64 ![1, 2, 3] bcast_S6x64x64_S1x6x64x64_1_2_3
        (transpose S6x64x64 [2, 0, 1] (Host.gather gather_S169x6_S64x64x1_S64x64x6_2_0_n_n_0_2_16 T
          (broadcastInDim S64x64x1 ![0, 1] bcast_S64x64_S64x64x1_0_1
            (select (cmpi .slt R (broadcastInDim S64x64 ![] bcast_S_S64x64 (constantI S_ 32 0#32)))
              (addi R (broadcastInDim S64x64 ![] bcast_S_S64x64 (constantI S_ 32 169#32))) R))) transposes_S64x64x6_S6x64x64_2_0_1))))
    transposes_S4x6x64x64_S4x64x6x64_0_2_1_3) shapeCasts_S4x64x6x64_S4x64x384

/-- The heads' channels as the kernel takes them, and their first 192 columns. -/
def headsT (H : FVec Ideal S384x256 .f32) : FVec Ideal S384x256 .bf16 := truncf .bf16 H bitsLt_bf16_f32
/-- The heads' channels as columns of ones, the head table cut to the channels. -/
def onesT (H : FVec Ideal S384x256 .f32) : FVec Ideal S384x192 .bf16 := extractStridedSlice S384x192 ![0, 0] (headsT H) slices_S384x256_S384x192_0_0

/-- The projection's weights and bias as the kernel takes them. -/
def projT (W : FVec Ideal S192x192 .f32) : FVec Ideal S192x192 .bf16 := truncf .bf16 W bitsLt_bf16_f32
/-- The projection's bias as a row. -/
def projBT (B : FVec Ideal S192 .f32) : FVec Ideal S1x192 .f32 := shapeCast S1x192 B shapeCasts_S192_S1x192

variable (m : (ℓ : Loc nD τ sig) → Buf (Elt Ideal) ℓ) (c : Dev nD)

/-- The call's padded weights. -/
theorem V_weights : V m c main_v31 = weightsT (m ((c : Thread nD τ).loc main_arg1)) := by
  show StableHlo.after hostOps0 _ (Proc.devRef .tc main_v31) = _
  after_results
  rfl

/-- The call's padded biases. -/
theorem V_biases : V m c main_v30 = biasesT (m ((c : Thread nD τ).loc main_arg2)) := by
  show StableHlo.after hostOps0 _ (Proc.devRef .tc main_v30) = _
  after_results
  rfl

/-- The call's projection weights. -/
theorem V_proj : V m c main_v32 = projT (m ((c : Thread nD τ).loc main_arg3)) := by
  show StableHlo.after hostOps0 _ (Proc.devRef .tc main_v32) = _
  after_results
  rfl

/-- The call's projection bias. -/
theorem V_projB : V m c main_v33 = projBT (m ((c : Thread nD τ).loc main_arg4)) := by
  show StableHlo.after hostOps0 _ (Proc.devRef .tc main_v33) = _
  after_results
  rfl

/-- The call's bias and mask by class. -/
theorem V_added : V m c main_v48 = addedT (m ((c : Thread nD τ).loc main_arg5)) relT maskT := by
  show StableHlo.after hostOps0 _ (Proc.devRef .tc main_v48) = _
  after_results
  rfl

/-- The call's head table. -/
theorem V_heads : V m c main_v49 = headsT headT := by
  show StableHlo.after hostOps0 _ (Proc.devRef .tc main_v49) = _
  after_results
  rfl

/-- The call's columns of ones. -/
theorem V_ones : V m c main_v50 = onesT headT := by
  show StableHlo.after hostOps0 _ (Proc.devRef .tc main_v50) = _
  after_results
  rfl

end Cert.KernelIdeal.Hosted

end
-- ==== Proof.Body.lean ====
/- The kernel's body written once, with its two loops as indices: the image of the pair `b`, the row of windows `wh`, the
   window of that row `ww` and the row inside the window `i`. What the body's run stores is this text at every index. -/
module

public import proofs.«01_k».proof.Proof.Run

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- The image row that window row `wh` has at its own row `i` (the shift wraps around the image's edge). -/
abbrev imgRow (wh i : Fin 8) : Fin 56 := ⟨(7 * wh.val + i.val + 3) % 56, Nat.mod_lt _ (by decide)⟩

/-- Sixty-four tiles of eight rows make 512 rows. -/
theorem concat64 : Shape.Concatenates (List.ofFn fun _ : Fin 64 => S8x192) S512x192 0 := by decide +kernel
/-- Eight windows of 64 rows make 512 rows. -/
theorem concat8 : Shape.Concatenates (List.ofFn fun _ : Fin 8 => S64x192) S512x192 0 := by decide +kernel
/-- Eight windows of seven columns make an image row. -/
theorem concat8x7 : Shape.Concatenates (List.ofFn fun _ : Fin 8 => S7x192) S56x192 0 := by decide +kernel
/-- Either image of the pair has its place in the scratch. -/
theorem inbScratch : ∀ (z : Fin 2) (a : Fin 3), (![z.val, 0, 0] : Fin 3 → Nat) a + S1x512x768.size a ≤ S2x512x768.size a := by decide

section Loads

variable (arg1 : Memref sig .tc .vmem S2x56x56x192 .f32) (harg1 : arg1.IsWhole)
  (x0 : Vec F S2x56x56x192 .f32)

/-- One image of the block. -/
def image (b : Fin 2) : FVec F S56x56x192 .f32 :=
  shapeCast S56x56x192 (View.readAt (Elt F) arg1.view (Rect.unit (s := S2x56x56x192) ![b.val, 0, 0, 0] S1x56x56x192.size (by revert b; decide)).toLoadRect (harg1.unread x0))
    shapeCasts_S1x56x56x192_S56x56x192

end Loads

/-- An image row, shifted by three columns, its first eleven columns repeated behind it. -/
def row64 (X : FVec F S56x56x192 .f32) (r : Fin 56) : FVec F S64x192 .f32 :=
  let R : FVec F S56x192 .f32 := shapeCast S56x192 (extractStridedSlice S1x56x192 ![r.val, 0, 0] X (by revert r; decide)) shapeCasts_S1x56x192_S56x192
  concatenate S64x192 0 [⟨S53x192, extractStridedSlice S53x192 ![3, 0] R slices_S56x192_o3_0_S53x192⟩,
    ⟨S11x192, extractStridedSlice S11x192 ![0, 0] R slices_S56x192_o0_0_S11x192⟩] concatenates_S53x192_S11x192_S64x192_d0

/-- Eight columns of a window row: window `n / 8`'s row `n % 8`. -/
def tile8 (X : FVec F S56x56x192 .f32) (wh : Fin 8) (n : Fin 64) : FVec F S8x192 .f32 :=
  extractStridedSlice S8x192 ![7 * (n.val / 8), 0] (row64 X (imgRow wh ⟨n.val % 8, Nat.mod_lt _ (by decide)⟩)) (by revert n; decide)

/-- The row of eight windows, padded to 64 tokens each, one after the other. -/
def tokens32 (X : FVec F S56x56x192 .f32) (wh : Fin 8) : FVec F S512x192 .f32 :=
  concatenate S512x192 0 (List.ofFn fun n : Fin 64 => ⟨S8x192, tile8 X wh n⟩) (by rw [List.map_ofFn]; exact concat64)

/-- The same at the matrix unit's width. -/
def tokens (X : FVec F S56x56x192 .f32) (wh : Fin 8) : FVec F S512x192 .bf16 :=
  truncf .bf16 (tokens32 X wh) bitsLt_bf16_f32

/-- The queries, keys and values of a row of windows. -/
def qkv (X : FVec F S56x56x192 .f32) (wh : Fin 8) (W : Vec F S192x768 .bf16) (b : Vec F S1x768 .f32) : FVec F S1x512x768 .bf16 :=
  shapeCast S1x512x768 (truncf .bf16 (addf
      (matmul dot_S512x192_S192x768_S512x768_1_0_0_1_n_n none (tokens X wh) (shapeCast S192x768 W shapeCasts_S192x768_S192x768 : FVec F S192x768 .bf16)
        (constant S512x768 .f32 0x00000000#32))
      (broadcastTo S512x768 (shapeCast S1x768 b shapeCasts_S1x768_S1x768 : FVec F S1x768 .f32) broadcasts_S1x768_S512x768)) bitsLt_bf16_f32) shapeCasts_S512x768_S1x512x768

/-- The scores of one window, every head's keys side by side. -/
def scores (mask : FVec F S384x256 .bf16) (q k : FVec F S64x256 .bf16) : FVec F S64x384 .f32 :=
  matmul dot_S64x256_S384x256_S64x384_1_1_0_0_n_n none q
    (mulf (concatenate S384x256 0 [⟨S64x256, k⟩, ⟨S64x256, k⟩, ⟨S64x256, k⟩, ⟨S64x256, k⟩, ⟨S64x256, k⟩, ⟨S64x256, k⟩]
      concatenates_S64x256_S64x256_S64x256_S64x256_S64x256_S64x256_S384x256_d0) mask)
    (constant S64x384 .f32 0x00000000#32)

/-- The weights before they are normalised. -/
def weights (s : FVec F S64x384 .f32) (bias : Vec F S1x64x384 .f32) : FVec F S64x384 .bf16 :=
  truncf .bf16 (exp (addf s (shapeCast S64x384 bias shapeCasts_S1x64x384_S64x384))) bitsLt_bf16_f32

/-- The weighted values of one window over the sum of the weights. -/
def mix (mask : FVec F S384x256 .bf16) (ones : FVec F S384x192 .bf16) (e : FVec F S64x384 .bf16) (v : FVec F S64x256 .bf16) : FVec F S64x192 .bf16 :=
  let o : FVec F S64x448 .f32 := matmul dot_S64x384_S384x448_S64x448_1_0_0_1_n_n none e
    (concatenate S384x448 1 [⟨S384x256, mulf (concatenate S384x256 0 [⟨S64x256, v⟩, ⟨S64x256, v⟩, ⟨S64x256, v⟩, ⟨S64x256, v⟩, ⟨S64x256, v⟩, ⟨S64x256, v⟩]
      concatenates_S64x256_S64x256_S64x256_S64x256_S64x256_S64x256_S384x256_d0) mask⟩, ⟨S384x192, ones⟩] concatenates_S384x256_S384x192_S384x448_d1)
    (constant S64x448 .f32 0x00000000#32)
  truncf .bf16 (divf (extractStridedSlice S64x192 ![0, 0] o slices_S64x448_o0_0_S64x192)
    (extractStridedSlice S64x192 ![0, 256] o slices_S64x448_o0_256_S64x192)) bitsLt_bf16_f32

/-- Eight windows of 64 tokens, one after the other. -/
def windows (o : Fin 8 → FVec F S64x192 .bf16) : FVec F S512x192 .bf16 :=
  concatenate S512x192 0 (List.ofFn fun n : Fin 8 => ⟨S64x192, o n⟩) (by rw [List.map_ofFn]; exact concat8)

/-- The projection of eight windows' mixed values. -/
def project (o : Fin 8 → FVec F S64x192 .bf16) (W : Vec F S192x192 .bf16) (b : Vec F S1x192 .f32) : FVec F S8x8x8x192 .f32 :=
  shapeCast S8x8x8x192 (addf
      (matmul dot_S512x192_S192x192_S512x192_1_0_0_1_n_n none
        (windows o)
        (shapeCast S192x192 W shapeCasts_S192x192_S192x192 : FVec F S192x192 .bf16) (constant S512x192 .f32 0x00000000#32))
      (broadcastTo S512x192 (shapeCast S1x192 b shapeCasts_S1x192_S1x192 : FVec F S1x192 .f32) broadcasts_S1x192_S512x192)) shapeCasts_S512x192_S8x8x8x192

/-- Row `i` of every window, eight columns each. -/
def lineOf64 (y : FVec F S8x8x8x192 .f32) (i : Fin 7) : FVec F S64x192 .f32 :=
  shapeCast S64x192 (shapeCast S8x8x192 (extractStridedSlice S8x1x8x192 ![0, i.val, 0, 0] y (by revert i; decide))
    shapeCasts_S8x1x8x192_S8x8x192) shapeCasts_S8x8x192_S64x192

/-- The seven columns of window column `n`. -/
def cols7 (L : FVec F S64x192 .f32) (n : Fin 8) : FVec F S7x192 .f32 :=
  extractStridedSlice S7x192 ![8 * n.val, 0] L (by revert n; decide)

/-- Row `i` of every window, the padded column dropped, as one image row. -/
def lineOf (y : FVec F S8x8x8x192 .f32) (i : Fin 7) : FVec F S56x192 .f32 :=
  concatenate S56x192 0 (List.ofFn fun n : Fin 8 => ⟨S7x192, cols7 (lineOf64 y i) n⟩) (by rw [List.map_ofFn]; exact concat8x7)

/-- The image row as it is stored: shifted back by three columns. -/
def lineBack (M : FVec F S56x192 .f32) : FVec F S1x56x192 .f32 :=
  shapeCast S1x56x192 (concatenate S56x192 0 [⟨S3x192, extractStridedSlice S3x192 ![53, 0] M slices_S56x192_o53_0_S3x192⟩,
    ⟨S53x192, extractStridedSlice S53x192 ![0, 0] M slices_S56x192_o0_0_S53x192⟩] concatenates_S3x192_S53x192_S56x192_d0) shapeCasts_S56x192_S1x56x192

section Whole

variable (arg1 : Memref sig .tc .vmem S2x56x56x192 .f32) (harg1 : arg1.IsWhole) (arg2 : Memref sig .tc .vmem S192x768 .bf16) (harg2 : arg2.IsWhole)
  (arg3 : Memref sig .tc .vmem S1x768 .f32) (harg3 : arg3.IsWhole) (arg4 : Memref sig .tc .vmem S192x192 .bf16) (harg4 : arg4.IsWhole)
  (arg5 : Memref sig .tc .vmem S1x192 .f32) (harg5 : arg5.IsWhole) (arg6 : Memref sig .tc .vmem S4x64x384 .f32) (harg6 : arg6.IsWhole)
  (arg7 : Memref sig .tc .vmem S384x256 .bf16) (harg7 : arg7.IsWhole) (arg8 : Memref sig .tc .vmem S384x192 .bf16) (harg8 : arg8.IsWhole)
  (arg10 : Memref sig .tc .vmem S2x512x768 .bf16)
  (x0 : Vec F S2x56x56x192 .f32) (x1 : Vec F S192x768 .bf16) (x2 : Vec F S1x768 .f32) (x3 : Vec F S192x192 .bf16) (x4 : Vec F S1x192 .f32)
  (x5 : Vec F S4x64x384 .f32) (x6 : Vec F S384x256 .bf16) (x7 : Vec F S384x192 .bf16)

/-- The head mask. -/
def headMask : FVec F S384x256 .bf16 :=
  shapeCast S384x256 (View.readAt (Elt F) arg7.view (Rect.unit ![0, 0] S384x256.size inb_S384x256_S384x256_0_0).toLoadRect (harg7.unread x6)) shapeCasts_S384x256_S384x256

/-- The head mask's first columns, which sum the weights. -/
def headOnes : FVec F S384x192 .bf16 :=
  shapeCast S384x192 (View.readAt (Elt F) arg8.view (Rect.unit ![0, 0] S384x192.size inb_S384x192_S384x192_0_0).toLoadRect (harg8.unread x7)) shapeCasts_S384x192_S384x192

/-- What round `k` (image `k / 8`, window row `k % 8`) stores in the scratch. -/
def round (b : Fin 2) (wh : Fin 8) : FVec F S1x512x768 .bf16 :=
  qkv (image arg1 harg1 x0 b) wh
    (View.readAt (Elt F) arg2.view (Rect.unit ![0, 0] S192x768.size inb_S192x768_S192x768_0_0).toLoadRect (harg2.unread x1))
    (View.readAt (Elt F) arg3.view (Rect.unit ![0, 0] S1x768.size inb_S1x768_S1x768_0_0).toLoadRect (harg3.unread x2))

/-- The scratch's stores up to round `k`, the last first. -/
def history : (k : Nat) → List (View.Piece (Elt F) S2x512x768 .bf16)
  | 0 => []
  | k + 1 => ⟨Rect.unit ![k / 8 % 2, 0, 0] S1x512x768.size (inbScratch ⟨k / 8 % 2, Nat.mod_lt _ (by decide)⟩),
      round arg1 harg1 arg2 harg2 arg3 harg3 x0 x1 x2 ⟨k / 8 % 2, Nat.mod_lt _ (by decide)⟩ ⟨k % 8, Nat.mod_lt _ (by decide)⟩⟩ :: history k

/-- The load of window `ww`'s columns `256 s …` from the scratch, in image `b`, window row `wh`. -/
def load (b : Fin 2) (wh ww : Fin 8) (s : Fin 3) : FVec F S64x256 .bf16 :=
  LoadRect.valAlong (LoadRect.numel_consLift _ ![1, 512, 768] rfl (by decide))
    (arg10.view.readCov (history arg1 harg1 arg2 harg2 arg3 harg3 x0 x1 x2 (8 * b.val + wh.val + 1))
      ((Rect.unit (s := S2x512x768) ![b.val, 0, 0] S1x512x768.size (by revert b; decide)).withinL
        ((Rect.unit (s := S512x768) ![64 * ww.val, 256 * s.val] S64x256.size (by revert ww s; decide)).toLoadRect.consLift ![1, 512, 768] rfl (by decide)) (fun _ => rfl)))

/-- The bias of a window: its class says whether it lies in the last row and in the last column of windows. -/
def biasOf (wh ww : Fin 8) : Vec F S1x64x384 .f32 :=
  View.readAt (Elt F) arg6.view (Rect.unit (s := S4x64x384) ![(if wh.val = 7 then 2 else 0) + (if ww.val = 7 then 1 else 0), 0, 0] S1x64x384.size
    (by revert wh ww; decide)).toLoadRect (harg6.unread x5)

/-- What a row of windows computes. -/
def rowOut (b : Fin 2) (wh : Fin 8) : FVec F S8x8x8x192 .f32 :=
  project (fun ww => mix (headMask arg7 harg7 x6) (headOnes arg8 harg8 x7)
      (weights (scores (headMask arg7 harg7 x6) (load arg1 harg1 arg2 harg2 arg3 harg3 arg10 x0 x1 x2 b wh ww 0)
          (load arg1 harg1 arg2 harg2 arg3 harg3 arg10 x0 x1 x2 b wh ww 1)) (biasOf arg6 harg6 x5 wh ww))
      (load arg1 harg1 arg2 harg2 arg3 harg3 arg10 x0 x1 x2 b wh ww 2))
    (View.readAt (Elt F) arg4.view (Rect.unit ![0, 0] S192x192.size inb_S192x192_S192x192_0_0).toLoadRect (harg4.unread x3))
    (View.readAt (Elt F) arg5.view (Rect.unit ![0, 0] S1x192.size inb_S1x192_S1x192_0_0).toLoadRect (harg5.unread x4))

/-- The place of one stored image row in the block. -/
abbrev place (b : Fin 2) (r : Fin 56) : Rect S2x56x56x192 :=
  (Rect.unit (s := S2x56x56x192) ![b.val, 0, 0, 0] S1x56x56x192.size (by revert b; decide)).within
    ((Rect.unit (s := S56x56x192) ![r.val, 0, 0] S1x56x192.size (by revert r; decide)).consLift ![1, 56, 56, 192] rfl (by decide)) (fun _ => rfl)

/-- Store number `n` of the body, counted from the last: image, window row, row inside the window. -/
abbrev imgOf (n : Fin 112) : Fin 2 := ⟨(111 - n.val) / 56, by omega⟩
/-- The window row of that store. -/
abbrev whOf (n : Fin 112) : Fin 8 := ⟨(111 - n.val) / 7 % 8, by omega⟩
/-- The row inside the window of that store. -/
abbrev rowOf (n : Fin 112) : Fin 7 := ⟨(111 - n.val) % 7, by omega⟩

/-- The payload of that store. -/
def payload (n : Fin 112) : FVec F S1x56x192 .f32 :=
  lineBack (lineOf (rowOut arg1 harg1 arg2 harg2 arg3 harg3 arg4 harg4 arg5 harg5 arg6 harg6 arg7 harg7 arg8 harg8 arg10 x0 x1 x2 x3 x4 x5 x6 x7
    (imgOf n) (whOf n)) (rowOf n))

/-- Everything the body stores into its output block, the last store first. -/
def stores : List (View.Piece (Elt F) S2x56x56x192 .f32) :=
  List.ofFn fun n : Fin 112 => ⟨place (imgOf n) (imgRow (whOf n) ⟨(rowOf n).val, by omega⟩),
    Rect.payAlong (Rect.numel_consLift _ ![1, 56, 56, 192] rfl (by decide))
      (payload arg1 harg1 arg2 harg2 arg3 harg3 arg4 harg4 arg5 harg5 arg6 harg6 arg7 harg7 arg8 harg8 arg10 x0 x1 x2 x3 x4 x5 x6 x7 n)⟩

/-- What the body's run stores is the text above. -/
theorem stores_eq (c : Dev nD) (i : grid0.Coords) (arg9 : Memref sig .tc .vmem S2x56x56x192 .f32) (harg9 : arg9.IsWhole) (harg10 : arg10.IsWhole) :
    (kernelRun0_A c i arg1 harg1 arg2 harg2 arg3 harg3 arg4 harg4 arg5 harg5 arg6 harg6 arg7 harg7 arg8 harg8 arg9 harg9 arg10 harg10 x0 x1 x2 x3 x4 x5 x6 x7).1
      = stores arg1 harg1 arg2 harg2 arg3 harg3 arg4 harg4 arg5 harg5 arg6 harg6 arg7 harg7 arg8 harg8 arg10 x0 x1 x2 x3 x4 x5 x6 x7 := by
  sl_kernel_rfl

end Whole

end Cert.KernelIdeal.Body

end
-- ==== Proof.Val1.lean ====
/- The pieces of the body's text read at an index, at the ideal instance. -/
module

public import proofs.«01_k».proof.Proof.Body
public import Idealize.ShloMosaic.Lib.Pointwise
public import Idealize.ShloMosaic.Lib.Tactic.CleanTypes
public import Idealize.ShloMosaic.Lib.Pipeline.Value

@[expose] public section

set_option maxRecDepth 16384

noncomputable section

namespace Cert.KernelIdeal.Body

open Cert.KernelIdeal Cert.KernelIdeal.Gen Idealize.ShloMosaic Idealize.ShloMosaic.TcCoe Idealize.SL.Sem

/-- Two reads of one array at equal coordinates agree. -/
theorem at2 {s : Fin 2 → Nat} {V : Type} (X : (⟨2, s⟩ : Shape).Idx → V) {i j : (⟨2, s⟩ : Shape).Idx}
    (h0 : (i 0).val = (j 0).val) (h1 : (i 1).val = (j 1).val) : X i = X j :=
  congrArg X (funext fun a => by fin_cases a <;> exact Fin.ext (by assumption))

/-- The same with three axes. -/
theorem at3 {s : Fin 3 → Nat} {V : Type} (X : (⟨3, s⟩ : Shape).Idx → V) {i j : (⟨3, s⟩ : Shape).Idx}
    (h0 : (i 0).val = (j 0).val) (h1 : (i 1).val = (j 1).val) (h2 : (i 2).val = (j 2).val) : X i = X j :=
  congrArg X (funext fun a => by fin_cases a <;> exact Fin.ext (by assumption))

/-- An image row, shifted and repeated, is the row read around. -/
theorem row64_at (X : FVec Ideal S56x56x192 .f32) (r : Fin 56) (q : Fin 64) (c : Fin 192) :
    row64 X r (ix2 q c) = X (ix3 r ⟨(q.val + 3) % 56, Nat.mod_lt _ (by decide)⟩ c) := by
  unfold row64
  clean_types
  pointwise
  split <;> exact at3 X rfl (by simp only [ix3]; omega) rfl

/-- A tile is eight columns of one image row. -/
theorem tile8_at (X : FVec Ideal S56x56x192 .f32) (wh : Fin 8) (n : Fin 64) (a : Fin 8) (c : Fin 192) :
    tile8 X wh n (ix2 a c) = X (ix3 (imgRow wh ⟨n.val % 8, Nat.mod_lt _ (by decide)⟩) ⟨(7 * (n.val / 8) + a.val + 3) % 56, Nat.mod_lt _ (by decide)⟩ c) := by
  unfold tile8
  pointwise
  rw [row64_at]

/-- A token is one place of the image. -/
theorem tokens_at (X : FVec Ideal S56x56x192 .f32) (wh : Fin 8) (t : Fin 512) (c : Fin 192) :
    tokens X wh (ix2 t c) = X (ix3 (imgRow wh ⟨t.val / 8 % 8, Nat.mod_lt _ (by decide)⟩) ⟨(7 * (t.val / 64) + t.val % 8 + 3) % 56, Nat.mod_lt _ (by decide)⟩ c) := by
  show tokens32 X wh (ix2 t c) = _
  unfold tokens32
  rw [concatenate_ofFn_apply (t := S512x192) (s₁ := S8x192) 0 (tile8 X wh) _ rfl 8 rfl (ix2 t c) ⟨t.val / 8, by omega⟩ rfl (ix2 ⟨t.val % 8, by omega⟩ c) rfl
      (fun b hb => by fin_cases b <;> [exact absurd rfl hb; rfl]), tile8_at]
  exact at3 X rfl (by simp only [ix3, Nat.div_div_eq_div_mul]) rfl

/-- The queries, keys and values of a row of windows. -/
theorem qkv_at (X : FVec Ideal S56x56x192 .f32) (wh : Fin 8) (W : Vec Ideal S192x768 .bf16) (b : Vec Ideal S1x768 .f32) (z : Fin 1) (t : Fin 512) (o : Fin 768) :
    qkv X wh W b (ix3 z t o) = (∑ c : Fin 192, tokens X wh (ix2 t c) * W (ix2 c o)) + b (ix2 0 o) := by
  unfold qkv
  clean_types
  pointwise

/-- Six copies of a window stacked, read at a row: the row modulo 64. -/
theorem six_at (k : FVec Ideal S64x256 .bf16) (r : Fin 384) (c : Fin 256) :
    concatenate S384x256 0 [⟨S64x256, k⟩, ⟨S64x256, k⟩, ⟨S64x256, k⟩, ⟨S64x256, k⟩, ⟨S64x256, k⟩, ⟨S64x256, k⟩]
      concatenates_S64x256_S64x256_S64x256_S64x256_S64x256_S64x256_S384x256_d0 (ix2 r c) = k (ix2 ⟨r.val % 64, Nat.mod_lt _ (by decide)⟩ c) :=
  concatenate_ofFn_apply (s₁ := S64x256) 0 (fun _ : Fin 6 => k) concatenates_S64x256_S64x256_S64x256_S64x256_S64x256_S64x256_S384x256_d0 rfl 64 rfl (ix2 r c)
    ⟨r.val / 64, by omega⟩ rfl (ix2 ⟨r.val % 64, Nat.mod_lt _ (by decide)⟩ c) rfl (fun b hb => by fin_cases b <;> [exact absurd rfl hb; rfl])

/-- The scores of one window: each row of keys is masked to its head's channels. -/
theorem scores_at (mask : FVec Ideal S384x256 .bf16) (q k : FVec Ideal S64x256 .bf16) (t : Fin 64) (r : Fin 384) :
    scores mask q k (ix2 t r) = ∑ c : Fin 256, q (ix2 t c) * (k (ix2 ⟨r.val % 64, Nat.mod_lt _ (by decide)⟩ c) * mask (ix2 r c)) := by
  have h := six_at k
  unfold scores
  generalize concatenate S384x256 0 [⟨S64x256, k⟩, ⟨S64x256, k⟩, ⟨S64x256, k⟩, ⟨S64x256, k⟩, ⟨S64x256, k⟩, ⟨S64x256, k⟩]
      concatenates_S64x256_S64x256_S64x256_S64x256_S64x256_S64x256_S384x256_d0 = K at h ⊢
  clean_types
  pointwise
  simp only [h]

/-- The weights before they are normalised. -/
theorem weights_at (s : FVec Ideal S64x384 .f32) (bias : Vec Ideal S1x64x384 .f32) (t : Fin 64) (r : Fin 384) :
    weights s bias (ix2 t r) = Ideal.exp (s (ix2 t r) + bias (ix3 0 t r)) := by
  unfold weights
  clean_types
  pointwise

/-- The weighted values over the sum of the weights. -/
theorem mix_at (mask : FVec Ideal S384x256 .bf16) (ones : FVec Ideal S384x192 .bf16) (e : FVec Ideal S64x384 .bf16) (v : FVec Ideal S64x256 .bf16)
    (t : Fin 64) (c : Fin 192) :
    mix mask ones e v (ix2 t c) = Ideal.div
      (∑ r : Fin 384, e (ix2 t r) * (v (ix2 ⟨r.val % 64, Nat.mod_lt _ (by decide)⟩ ⟨c.val, by omega⟩) * mask (ix2 r ⟨c.val, by omega⟩)))
      (∑ r : Fin 384, e (ix2 t r) * ones (ix2 r c)) := by
  have h := six_at v
  unfold mix
  generalize concatenate S384x256 0 [⟨S64x256, v⟩, ⟨S64x256, v⟩, ⟨S64x256, v⟩, ⟨S64x256, v⟩, ⟨S64x256, v⟩, ⟨S64x256, v⟩]
      concatenates_S64x256_S64x256_S64x256_S64x256_S64x256_S64x256_S384x256_d0 = K at h ⊢
  clean_types
  pointwise
  have hc : c.val < 256 := by omega
  simp only [dif_pos hc, h]

/-- Eight windows one after the other. -/
theorem windows_at (o : Fin 8 → FVec Ideal S64x192 .bf16) (t : Fin 512) (c : Fin 192) :
    windows o (ix2 t c) = o ⟨t.val / 64, by omega⟩ (ix2 ⟨t.val % 64, Nat.mod_lt _ (by decide)⟩ c) :=
  concatenate_ofFn_apply (t := S512x192) (s₁ := S64x192) 0 o _ rfl 64 rfl (ix2 t c) ⟨t.val / 64, by omega⟩ rfl (ix2 ⟨t.val % 64, Nat.mod_lt _ (by decide)⟩ c) rfl
    (fun b hb => by fin_cases b <;> [exact absurd rfl hb; rfl])

/-- The projection. -/
theorem project_at (o : Fin 8 → FVec Ideal S64x192 .bf16) (W : Vec Ideal S192x192 .bf16) (b : Vec Ideal S1x192 .f32) (ww i q : Fin 8) (c : Fin 192) :
    project o W b (ix4 ww i q c) = (∑ c' : Fin 192, o ww (ix2 ⟨8 * i.val + q.val, by omega⟩ c') * W (ix2 c' c)) + b (ix2 0 c) := by
  unfold project
  clean_types
  pointwise
  simp only [windows_at]
  refine congrArg₂ (· + ·) (Finset.sum_congr rfl fun x _ => congrArg₂ (· * ·) ?_ rfl) rfl
  have e : (⟨(ww.val * 64 + i.val * 8 + q.val) / 64, by omega⟩ : Fin 8) = ww := Fin.ext (by simp only; omega)
  rw [e]
  exact at2 (o ww) (by simp only [ix2]; omega) rfl

/-- Row `i` of every window, eight columns each. -/
theorem lineOf64_at (y : FVec Ideal S8x8x8x192 .f32) (i : Fin 7) (q : Fin 64) (c : Fin 192) :
    lineOf64 y i (ix2 q c) = y (ix4 ⟨q.val / 8, by omega⟩ ⟨i.val, by omega⟩ ⟨q.val % 8, by omega⟩ c) := by
  unfold lineOf64
  clean_types
  pointwise

/-- Row `i` of every window as one image row. -/
theorem lineOf_at (y : FVec Ideal S8x8x8x192 .f32) (i : Fin 7) (q : Fin 56) (c : Fin 192) :
    lineOf y i (ix2 q c) = y (ix4 ⟨q.val / 7, by omega⟩ ⟨i.val, by omega⟩ ⟨q.val % 7, by omega⟩ c) := by
  unfold lineOf
  rw [concatenate_ofFn_apply (t := S56x192) (s₁ := S7x192) 0 (cols7 (lineOf64 y i)) _ rfl 7 rfl (ix2 q c) ⟨q.val / 7, by omega⟩ rfl (ix2 ⟨q.val % 7, by omega⟩ c) rfl
      (fun b hb => by fin_cases b <;> [exact absurd rfl hb; rfl])]
  unfold cols7
  pointwise
  rw [lineOf64_at]
  congr 2 <;> exact Fin.ext (by dsimp; omega)

/-- The shift back. -/
theorem lineBack_at (M : FVec Ideal S56x192 .f32) (z : Fin 1) (s : Fin 56) (c : Fin 192) :
    lineBack M (ix3 z s c) = M (ix2 ⟨(s.val + 53) % 56, Nat.mod_lt _ (by decide)⟩ c) := by
  unfold lineBack
  clean_types
  pointwise
  split <;> exact at2 M (by simp only [ix2]; omega) rfl

end Cert.KernelIdeal.Body

end
-- ==== Proof.Val2.lean ====
/- The body's loads read at an index, at the ideal instance. -/
module

public import proofs.«01_k».proof.Proof.Val1
public import Idealize.ShloMosaic.Lib.WholeRead
public import Idealize.ShloMosaic.Lib.Pipeline.ReadBack

@[expose] public section

set_option maxRecDepth 16384

noncomputable section

namespace Cert.KernelIdeal.Body

open Cert.KernelIdeal Cert.KernelIdeal.Gen Idealize.ShloMosaic Idealize.ShloMosaic.TcCoe Idealize.SL.Sem

/-- The box of a whole shape leaves every index where it is. -/
theorem idx_whole {s : Shape} (off : Fin s.rank → Nat) (inb : ∀ a, off a + s.size a ≤ s.size a) (x : s.Idx) :
    (Rect.unit (s := s) off s.size inb).toLoadRect.idx x = x := by
  funext a
  apply Fin.ext
  have h : off a = 0 := by have := inb a; omega
  show off a + 1 * (x a).val = (x a).val
  omega

section Whole

variable (arg1 : Memref sig .tc .vmem S2x56x56x192 .f32) (harg1 : arg1.IsWhole) (arg2 : Memref sig .tc .vmem S192x768 .bf16) (harg2 : arg2.IsWhole)
  (arg3 : Memref sig .tc .vmem S1x768 .f32) (harg3 : arg3.IsWhole) (arg4 : Memref sig .tc .vmem S192x192 .bf16) (harg4 : arg4.IsWhole)
  (arg5 : Memref sig .tc .vmem S1x192 .f32) (harg5 : arg5.IsWhole) (arg6 : Memref sig .tc .vmem S4x64x384 .f32) (harg6 : arg6.IsWhole)
  (arg7 : Memref sig .tc .vmem S384x256 .bf16) (harg7 : arg7.IsWhole) (arg8 : Memref sig .tc .vmem S384x192 .bf16) (harg8 : arg8.IsWhole)
  (arg10 : Memref sig .tc .vmem S2x512x768 .bf16)
  (x0 : Vec Ideal S2x56x56x192 .f32) (x1 : Vec Ideal S192x768 .bf16) (x2 : Vec Ideal S1x768 .f32) (x3 : Vec Ideal S192x192 .bf16) (x4 : Vec Ideal S1x192 .f32)
  (x5 : Vec Ideal S4x64x384 .f32) (x6 : Vec Ideal S384x256 .bf16) (x7 : Vec Ideal S384x192 .bf16)

/-- One image of the block. -/
theorem image_at (b : Fin 2) (r s : Fin 56) (c : Fin 192) : image arg1 harg1 x0 b (ix3 r s c) = x0 (ix4 b r s c) := by
  unfold image
  show View.readAt (Elt Ideal) arg1.view _ _ (Shape.reshapeEquiv _ (ix3 r s c)) = _
  rw [Shape.reshapeEquiv_cons_one (d := S56x56x192.size)]
  rw [harg1.readAt_unread]
  congr 1
  funext a
  apply Fin.ext
  match a with
  | 0 => show b.val + 1 * 0 = b.val; omega
  | 1 => show 0 + 1 * r.val = r.val; omega
  | 2 => show 0 + 1 * s.val = s.val; omega
  | 3 => show 0 + 1 * c.val = c.val; omega

/-- The head table as the body loads it. -/
theorem headMask_eq : headMask arg7 harg7 x6 = x6 := by
  funext x
  unfold headMask
  refine (congrFun (shapeCast_self _ _) x).trans ?_
  exact (harg7.readAt_unread _ _ _).trans (congrArg x6 (idx_whole _ _ x))

/-- The columns of ones as the body loads them. -/
theorem headOnes_eq : headOnes arg8 harg8 x7 = x7 := by
  funext x
  unfold headOnes
  refine (congrFun (shapeCast_self _ _) x).trans ?_
  exact (harg8.readAt_unread _ _ _).trans (congrArg x7 (idx_whole _ _ x))

/-- The bias and mask of a window's class, read at an index. -/
theorem biasOf_at (wh ww : Fin 8) (t : Fin 64) (r : Fin 384) :
    biasOf arg6 harg6 x5 wh ww (ix3 0 t r) = x5 (ix3 ⟨(if wh.val = 7 then 2 else 0) + (if ww.val = 7 then 1 else 0), by split <;> split <;> decide⟩ t r) := by
  unfold biasOf
  rw [harg6.readAt_unread]
  congr 1
  funext a
  apply Fin.ext
  match a with
  | 0 => exact Nat.add_zero _
  | 1 => show 0 + 1 * t.val = t.val; omega
  | 2 => show 0 + 1 * r.val = r.val; omega

/-- A round of the body writes and reads back its scratch rows. -/
theorem round_eq (b : Fin 2) (wh : Fin 8) :
    round arg1 harg1 arg2 harg2 arg3 harg3 x0 x1 x2 b wh = qkv (image arg1 harg1 x0 b) wh x1 x2 := by
  unfold round
  congr 1
  · funext x; exact (harg2.readAt_unread _ _ _).trans (congrArg x1 (idx_whole _ _ x))
  · funext x; exact (harg3.readAt_unread _ _ _).trans (congrArg x2 (idx_whole _ _ x))

/-- The scratch's columns of one window, as this round stored them. -/
theorem load_at (b : Fin 2) (wh ww : Fin 8) (s : Fin 3) (t : Fin 64) (c : Fin 256) :
    load arg1 harg1 arg2 harg2 arg3 harg3 arg10 x0 x1 x2 b wh ww s (ix2 t c)
      = round arg1 harg1 arg2 harg2 arg3 harg3 x0 x1 x2 b wh (ix3 0 ⟨64 * ww.val + t.val, by omega⟩ ⟨256 * s.val + c.val, by omega⟩) := by
  have e1 : (⟨(8 * b.val + wh.val) / 8 % 2, Nat.mod_lt _ (by decide)⟩ : Fin 2) = b := Fin.ext (by show (8 * b.val + wh.val) / 8 % 2 = b.val; omega)
  have e2 : (⟨(8 * b.val + wh.val) % 8, Nat.mod_lt _ (by decide)⟩ : Fin 8) = wh := Fin.ext (by show (8 * b.val + wh.val) % 8 = wh.val; omega)
  have hx : Shape.reshapeEquiv (LoadRect.numel_consLift ((Rect.unit (s := S512x768) ![64 * ww.val, 256 * s.val] S64x256.size (by revert ww s; decide)).toLoadRect)
      ![1, 512, 768] rfl (by decide)) (ix2 t c) = Fin.cons ⟨0, Nat.one_pos⟩ (ix2 t c) := Shape.reshapeEquiv_cons_one (d := S64x256.size) _ _
  unfold load
  show View.read (Elt Ideal) arg10.view (arg10.view.writes (Elt Ideal) arg10.view.junk (_ :: _)) _ = _
  rw [hx]
  refine (View.read_writes_cons_hit_of_coords _ _ _ _ _ (ix3 0 ⟨64 * ww.val + t.val, by omega⟩ ⟨256 * s.val + c.val, by omega⟩) _ ?_).trans ?_
  · intro a
    match a with
    | 0 => show b.val + (0 + 1 * 0) = (8 * b.val + wh.val) / 8 % 2 + 1 * 0; omega
    | 1 => show 0 + 64 * ww.val + 1 * t.val = 0 + 1 * (64 * ww.val + t.val); omega
    | 2 => show 0 + 256 * s.val + 1 * c.val = 0 + 1 * (256 * s.val + c.val); omega
  · rw [e1, e2]

end Whole

end Cert.KernelIdeal.Body

end
-- ==== Proof.Val3.lean ====
/- What the body leaves in its output block, read at an index. -/
module

public import proofs.«01_k».proof.Proof.Val2
public import Idealize.ShloMosaic.Lib.Pipeline.ValueKit.Tiles

@[expose] public section

set_option maxRecDepth 16384

noncomputable section

namespace Cert.KernelIdeal.Body

open Cert.KernelIdeal Cert.KernelIdeal.Gen Idealize.ShloMosaic Idealize.ShloMosaic.TcCoe Idealize.SL.Sem

section Blocks

variable (x0 : Vec Ideal S2x56x56x192 .f32) (x1 : Vec Ideal S192x768 .bf16) (x2 : Vec Ideal S1x768 .f32) (x3 : Vec Ideal S192x192 .bf16) (x4 : Vec Ideal S1x192 .f32)
  (x5 : Vec Ideal S4x64x384 .f32) (x6 : Vec Ideal S384x256 .bf16) (x7 : Vec Ideal S384x192 .bf16)

/-- Column `o` of the affine map at token `t` of a window. -/
def bQkv (b : Fin 2) (wh ww : Fin 8) (t : Fin 64) (o : Fin 768) : EReal :=
  (∑ c : Fin 192, x0 (ix4 b (imgRow wh ⟨t.val / 8, by omega⟩) ⟨(7 * ww.val + t.val % 8 + 3) % 56, Nat.mod_lt _ (by decide)⟩ c) * x1 (ix2 c o)) + x2 (ix2 0 o)

/-- The class of a window: whether it is in the last row, and in the last column, of windows. -/
def cls (wh ww : Fin 8) : Fin 4 :=
  ⟨(if wh.val = 7 then 2 else 0) + (if ww.val = 7 then 1 else 0), by split <;> split <;> decide⟩

/-- The weight of key row `r` (head `r / 64`, token `r % 64`) for the query token `t`. -/
def bExp (b : Fin 2) (wh ww : Fin 8) (t : Fin 64) (r : Fin 384) : EReal :=
  Ideal.exp ((∑ c : Fin 256, bQkv x0 x1 x2 b wh ww t ⟨c.val, by omega⟩
      * (bQkv x0 x1 x2 b wh ww ⟨r.val % 64, Nat.mod_lt _ (by decide)⟩ ⟨256 + c.val, by omega⟩ * x6 (ix2 r c)))
    + x5 (ix3 (cls wh ww) t r))

/-- Channel `c` of the mixed values. -/
def bMix (b : Fin 2) (wh ww : Fin 8) (t : Fin 64) (c : Fin 192) : EReal :=
  Ideal.div (∑ r : Fin 384, bExp x0 x1 x2 x5 x6 b wh ww t r
      * (bQkv x0 x1 x2 b wh ww ⟨r.val % 64, Nat.mod_lt _ (by decide)⟩ ⟨512 + c.val, by omega⟩ * x6 (ix2 r ⟨c.val, by omega⟩)))
    (∑ r : Fin 384, bExp x0 x1 x2 x5 x6 b wh ww t r * x7 (ix2 r c))

/-- Channel `c` of the projected token. -/
def bOut (b : Fin 2) (wh ww : Fin 8) (t : Fin 64) (c : Fin 192) : EReal :=
  (∑ c' : Fin 192, bMix x0 x1 x2 x5 x6 x7 b wh ww t c' * x3 (ix2 c' c)) + x4 (ix2 0 c)

end Blocks

section Whole

variable (arg1 : Memref sig .tc .vmem S2x56x56x192 .f32) (harg1 : arg1.IsWhole) (arg2 : Memref sig .tc .vmem S192x768 .bf16) (harg2 : arg2.IsWhole)
  (arg3 : Memref sig .tc .vmem S1x768 .f32) (harg3 : arg3.IsWhole) (arg4 : Memref sig .tc .vmem S192x192 .bf16) (harg4 : arg4.IsWhole)
  (arg5 : Memref sig .tc .vmem S1x192 .f32) (harg5 : arg5.IsWhole) (arg6 : Memref sig .tc .vmem S4x64x384 .f32) (harg6 : arg6.IsWhole)
  (arg7 : Memref sig .tc .vmem S384x256 .bf16) (harg7 : arg7.IsWhole) (arg8 : Memref sig .tc .vmem S384x192 .bf16) (harg8 : arg8.IsWhole)
  (arg10 : Memref sig .tc .vmem S2x512x768 .bf16)
  (x0 : Vec Ideal S2x56x56x192 .f32) (x1 : Vec Ideal S192x768 .bf16) (x2 : Vec Ideal S1x768 .f32) (x3 : Vec Ideal S192x192 .bf16) (x4 : Vec Ideal S1x192 .f32)
  (x5 : Vec Ideal S4x64x384 .f32) (x6 : Vec Ideal S384x256 .bf16) (x7 : Vec Ideal S384x192 .bf16)

/-- A loaded entry is the affine map at its token. -/
theorem load_lin (b : Fin 2) (wh ww : Fin 8) (s : Fin 3) (t : Fin 64) (c : Fin 256) :
    load arg1 harg1 arg2 harg2 arg3 harg3 arg10 x0 x1 x2 b wh ww s (ix2 t c) = bQkv x0 x1 x2 b wh ww t ⟨256 * s.val + c.val, by omega⟩ := by
  rw [load_at, round_eq, qkv_at]
  unfold bQkv
  refine congrArg₂ (· + ·) (Finset.sum_congr rfl fun c' _ => congrArg₂ (· * ·) ?_ rfl) rfl
  rw [tokens_at, image_at]
  have e1 : (64 * ww.val + t.val) / 8 % 8 = t.val / 8 := by omega
  have e2 : (7 * ((64 * ww.val + t.val) / 64) + (64 * ww.val + t.val) % 8 + 3) % 56 = (7 * ww.val + t.val % 8 + 3) % 56 := by omega
  simp only [e1, e2]

/-- The projected tokens of a row of windows, read at an index. -/
theorem rowOut_at (b : Fin 2) (wh ww i q : Fin 8) (c : Fin 192) :
    rowOut arg1 harg1 arg2 harg2 arg3 harg3 arg4 harg4 arg5 harg5 arg6 harg6 arg7 harg7 arg8 harg8 arg10 x0 x1 x2 x3 x4 x5 x6 x7 b wh (ix4 ww i q c)
      = bOut x0 x1 x2 x3 x4 x5 x6 x7 b wh ww ⟨8 * i.val + q.val, by omega⟩ c := by
  unfold rowOut
  rw [project_at]
  unfold bOut bMix bExp
  have h3 : View.readAt (Elt Ideal) arg4.view (Rect.unit ![0, 0] S192x192.size inb_S192x192_S192x192_0_0).toLoadRect (harg4.unread x3) = x3 := by
    funext x; exact (harg4.readAt_unread _ _ _).trans (congrArg x3 (idx_whole _ _ x))
  have h4 : View.readAt (Elt Ideal) arg5.view (Rect.unit ![0, 0] S1x192.size inb_S1x192_S1x192_0_0).toLoadRect (harg5.unread x4) = x4 := by
    funext x; exact (harg5.readAt_unread _ _ _).trans (congrArg x4 (idx_whole _ _ x))
  rw [h3, h4, headMask_eq, headOnes_eq]
  simp only [mix_at, weights_at, scores_at, load_lin, biasOf_at]
  have e0 : 256 * (0 : Fin 3).val = 0 := rfl
  have e1 : 256 * (1 : Fin 3).val = 256 := rfl
  have e2 : 256 * (2 : Fin 3).val = 512 := rfl
  simp only [e0, e1, e2, Nat.zero_add]
  rfl

/-- The block's entry at row `r`, column `s`: the window and the position inside it are those of the pixel rolled back by three. -/
def blockAt (b : Fin 2) (r s : Fin 56) (c : Fin 192) : EReal :=
  bOut x0 x1 x2 x3 x4 x5 x6 x7 b ⟨(r.val + 53) % 56 / 7, by omega⟩ ⟨(s.val + 53) % 56 / 7, by omega⟩
    ⟨8 * ((r.val + 53) % 56 % 7) + (s.val + 53) % 56 % 7, by omega⟩ c

/-- What the `n`-th store writes, read at an index. -/
theorem payload_at (n : Fin 112) (z : Fin 1) (s : Fin 56) (c : Fin 192) :
    payload arg1 harg1 arg2 harg2 arg3 harg3 arg4 harg4 arg5 harg5 arg6 harg6 arg7 harg7 arg8 harg8 arg10 x0 x1 x2 x3 x4 x5 x6 x7 n (ix3 z s c)
      = blockAt x0 x1 x2 x3 x4 x5 x6 x7 (imgOf n) (imgRow (whOf n) ⟨(rowOf n).val, by omega⟩) s c := by
  unfold payload
  rw [lineBack_at, lineOf_at, rowOut_at]
  unfold blockAt
  have e : (7 * (whOf n).val + (rowOf n).val + 3) % 56 + 53 = (7 * (whOf n).val + (rowOf n).val + 3) % 56 + 53 := rfl
  have h1 : ((imgRow (whOf n) ⟨(rowOf n).val, by omega⟩).val + 53) % 56 / 7 = (whOf n).val := by
    show ((7 * (whOf n).val + (rowOf n).val + 3) % 56 + 53) % 56 / 7 = (whOf n).val
    have := (whOf n).isLt; have := (rowOf n).isLt; omega
  have h2 : ((imgRow (whOf n) ⟨(rowOf n).val, by omega⟩).val + 53) % 56 % 7 = (rowOf n).val := by
    show ((7 * (whOf n).val + (rowOf n).val + 3) % 56 + 53) % 56 % 7 = (rowOf n).val
    have := (whOf n).isLt; have := (rowOf n).isLt; omega
  simp only [h1, h2]

/-- The whole list of stores, read at an index of the block. -/
theorem stores_at (b : Fin 2) (r s : Fin 56) (c : Fin 192) :
    View.canon (stores arg1 harg1 arg2 harg2 arg3 harg3 arg4 harg4 arg5 harg5 arg6 harg6 arg7 harg7 arg8 harg8 arg10 x0 x1 x2 x3 x4 x5 x6 x7) (ix4 b r s c)
      = blockAt x0 x1 x2 x3 x4 x5 x6 x7 b r s c := by
  unfold stores
  refine View.canon_ofFn_eq_of_forall _ _ _ _ ?_ ?_
  · refine ⟨⟨111 - (56 * b.val + (r.val + 53) % 56), by omega⟩, ?_⟩
    have hx : (place (imgOf ⟨111 - (56 * b.val + (r.val + 53) % 56), by omega⟩)
        (imgRow (whOf ⟨111 - (56 * b.val + (r.val + 53) % 56), by omega⟩) ⟨(rowOf ⟨111 - (56 * b.val + (r.val + 53) % 56), by omega⟩).val, by omega⟩)).emb (ix4 (0 : Fin 1) (0 : Fin 1) s c) = ix4 b r s c := by
      funext a
      apply Fin.ext
      match a with
      | 0 => show (111 - (111 - (56 * b.val + (r.val + 53) % 56))) / 56 + 0 + 1 * 0 = b.val; omega
      | 1 =>
        show 0 + (7 * ((111 - (111 - (56 * b.val + (r.val + 53) % 56))) / 7 % 8) + (111 - (111 - (56 * b.val + (r.val + 53) % 56))) % 7 + 3) % 56 + 1 * 0 = r.val
        omega
      | 2 => show 0 + 0 + 1 * s.val = s.val; omega
      | 3 => show 0 + 0 + 1 * c.val = c.val; omega
    rw [← hx]
    exact (place _ _).idx_mem _
  · intro n x hx
    have h0 : (imgOf n).val + 0 + 1 * (x 0).val = b.val := congrArg Fin.val (congrFun hx 0)
    have h1 : 0 + (imgRow (whOf n) ⟨(rowOf n).val, by omega⟩).val + 1 * (x 1).val = r.val := congrArg Fin.val (congrFun hx 1)
    have h2 : 0 + 0 + 1 * (x 2).val = s.val := congrArg Fin.val (congrFun hx 2)
    have h3 : 0 + 0 + 1 * (x 3).val = c.val := congrArg Fin.val (congrFun hx 3)
    have z0 : (x 0).val < 1 := (x 0).isLt
    have z1 : (x 1).val < 1 := (x 1).isLt
    refine (Rect.payAlong_consLift _ ![1, 56, 56, 192] rfl (by decide) _ _ x (ix3 (0 : Fin 1) s c) ?_).trans ?_
    · intro i
      match i with
      | 0 => show 0 = (x 1).val; omega
      | 1 => show s.val = (x 2).val; omega
      | 2 => show c.val = (x 3).val; omega
    · rw [payload_at]
      have hb : imgOf n = b := Fin.ext (by omega)
      have hr : imgRow (whOf n) ⟨(rowOf n).val, by omega⟩ = r := Fin.ext (by omega)
      rw [hb, hr]

end Whole

end Cert.KernelIdeal.Body

end
-- ==== Proof.Take.lean ====
/- A `gather` of whole rows of a matrix, and a `scatter` of one block, read at an index. -/
module

public import Idealize.ShloMosaic.Lib.ValueIdxCore
public import Idealize.ShloMosaic.Lib.Pointwise

@[expose] public section

namespace Cert.Take

open Idealize.ShloMosaic

/-- The dimension numbers of `x[idx]` for a matrix `x : [N, H]` and an integer matrix `idx : [A, B]`. -/
abbrev rowsDims (N H A B : Nat) (wf : GatherDims.WF ⟨2, ![N, H]⟩ ⟨3, ![A, B, 1]⟩ ⟨3, ![A, B, H]⟩ [2] [0] [] [0] [] 2 ![1, H]) :
    GatherDims ⟨2, ![N, H]⟩ ⟨3, ![A, B, 1]⟩ ⟨3, ![A, B, H]⟩ where
  offsetDims := [2]
  collapsedSliceDims := [0]
  operandBatchingDims := []
  startIndicesBatchingDims := []
  startIndexMap := [0]
  indexVectorDim := 2
  sliceSizes := ![1, H]
  wf := wf

/-- Entry `(a, b, h)` of the rows taken: the matrix at row `idx[a, b]`, read signed and clamped, column `h`. -/
theorem gather_rows_apply {α : Type} {N H A B w : Nat} (hN : 0 < N)
    (wf : GatherDims.WF ⟨2, ![N, H]⟩ ⟨3, ![A, B, 1]⟩ ⟨3, ![A, B, H]⟩ [2] [0] [] [0] [] 2 ![1, H])
    (x : (⟨2, ![N, H]⟩ : Shape).Idx → α) (idx : IVec ⟨3, ![A, B, 1]⟩ w) (a : Fin A) (b : Fin B) (h : Fin H) :
    Host.gather (rowsDims N H A B wf) x idx (ix3 a b h) = x (ix2 ⟨min (idx (ix3 a b 0)).toInt.toNat (N - 1), by omega⟩ h) := by
  unfold Host.gather
  congr 1
  funext e
  refine Fin.ext ?_
  show (rowsDims N H A B wf).start (ix3 a b h) idx e + (rowsDims N H A B wf).batchCoord (ix3 a b h) e + (rowsDims N H A B wf).offCoord (ix3 a b h) e = _
  have h01 : e = 0 ∨ e = 1 := by
    match e with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun q => ((GatherDims.mem_sKept _ _).mp q).1 (List.mem_singleton.mpr rfl))]
    simp only [Nat.add_zero]
    unfold GatherDims.start
    rw [dif_pos (show (0 : Fin 2) ∈ (rowsDims N H A B wf).startIndexMap from List.mem_singleton.mpr rfl)]
    have hsi : (rowsDims N H A B wf).siIdx (ix3 a b h) ⟨List.idxOf (0 : Fin 2) (rowsDims N H A B wf).startIndexMap,
        List.idxOf_lt_length_iff.2 (List.mem_singleton.mpr rfl)⟩ = ix3 a b 0 := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ ([0] : List (Fin 2)) from by decide)]
    unfold GatherDims.offCoord
    rw [dif_pos (show (1 : Fin 2) ∈ (rowsDims N H A B wf).sKept from (GatherDims.mem_sKept _ _).mpr ⟨(show (1 : Fin 2) ∉ ([0] : List (Fin 2)) from by decide), List.not_mem_nil⟩)]
    show 0 + 0 + h.val = h.val
    omega

end Cert.Take
-- ==== Proof.HostVal.lean ====
/- The arrays the host hands the kernel, read at an index. -/
module

public import proofs.«01_k».proof.Proof.HostV
public import proofs.«01_k».proof.Proof.Take
public import Idealize.ShloMosaic.Lib.Routing.OpsSet
public import Idealize.ShloMosaic.Lib.Routing.OpsPair

@[expose] public section

set_option maxRecDepth 16384

noncomputable section

namespace Cert.KernelIdeal.Hosted

open Cert.KernelIdeal Cert.KernelIdeal.Gen Idealize.ShloMosaic Idealize.ShloMosaic.TcCoe Idealize.SL.Sem Idealize.ShloMosaic.StableHlo

/-- Where an element of a third of the weights is written: its row, and its column past the third's first. -/
theorem lands_cols (o : BitVec 32) (k k' : Fin 192) (c : Fin 192) (c' : Fin 768) :
    scatter_S192x768_S1_S192x192_01_n_1_0.resultIdx? (ix2 k c) (colT o) = some (ix2 k' c') ↔ k.val = k'.val ∧ o.toInt + c.val = c'.val := by
  refine (Routing.resultIdx?_ix2 _ _ _ k' c').trans ?_
  have s0 : scatter_S192x768_S1_S192x192_01_n_1_0.start (ix2 k c) (colT o) 0 = 0 := by
    unfold ScatterDims.start
    exact dif_neg (show (0 : Fin 2) ∉ ([1] : List (Fin 2)) from by decide)
  have s1 : scatter_S192x768_S1_S192x192_01_n_1_0.start (ix2 k c) (colT o) 1 = o.toInt := by
    unfold ScatterDims.start
    exact (dif_pos (show (1 : Fin 2) ∈ ([1] : List (Fin 2)) from by decide)).trans rfl
  have w0 : scatter_S192x768_S1_S192x192_01_n_1_0.window (ix2 k c) 0 = k.val := rfl
  have w1 : scatter_S192x768_S1_S192x192_01_n_1_0.window (ix2 k c) 1 = c.val := rfl
  rw [s0, s1, w0, w1]
  omega

/-- A third of the weights written at column `n`, read at an index. -/
theorem cols_at (X : FVec Ideal S192x768 .f32) (U : FVec Ideal S192x192 .f32) (o : BitVec 32) (n : ℕ) (ho : o.toInt = n) (k : Fin 192) (c : Fin 768) :
    Host.scatter scatter_S192x768_S1_S192x192_01_n_1_0 (fun _ b => b) X (colT o) U (ix2 k c)
      = if h : n ≤ c.val ∧ c.val < n + 192 then U (ix2 k ⟨c.val - n, by omega⟩) else X (ix2 k c) := by
  split
  · rename_i h
    refine Routing.scatter_set_hit _ _ _ _ _ _ (fun i hi => ?_) (ix2 k ⟨c.val - n, by omega⟩) ?_
    · obtain ⟨a, b, rfl⟩ : ∃ a b, i = ix2 a b := ⟨i 0, i 1, by funext z; match z with | ⟨0, _⟩ => rfl | ⟨1, _⟩ => rfl⟩
      have e := (lands_cols o a k b c).1 hi
      refine congrArg U (congrArg₂ ix2 (Fin.ext e.1) (Fin.ext ?_))
      show b.val = c.val - n
      omega
    · refine (lands_cols _ _ _ _ _).2 ⟨rfl, ?_⟩
      show o.toInt + ((c.val - n : ℕ) : ℤ) = c.val
      omega
  · rename_i h
    refine Routing.scatter_set_miss _ _ _ _ _ fun i hi => h ?_
    obtain ⟨a, b, rfl⟩ : ∃ a b, i = ix2 a b := ⟨i 0, i 1, by funext z; match z with | ⟨0, _⟩ => rfl | ⟨1, _⟩ => rfl⟩
    have e := (lands_cols o a k b c).1 hi
    have hb : b.val < 192 := b.isLt
    omega

/-- Where an element of a third of the biases is written: past the third's first column. -/
theorem lands_row (o : BitVec 32) (c : Fin 192) (c' : Fin 768) :
    scatter_S1x768_S2_S192_0_0_01_0.resultIdx? (ix1 c) (placeT o) = some (ix2 0 c') ↔ o.toInt + c.val = c'.val := by
  refine (Routing.resultIdx?_ix2 _ _ _ 0 c').trans ?_
  have s0 : scatter_S1x768_S2_S192_0_0_01_0.start (ix1 c) (placeT o) 0 = 0 := by
    unfold ScatterDims.start
    exact (dif_pos (show (0 : Fin 2) ∈ ([0, 1] : List (Fin 2)) from by decide)).trans rfl
  have s1 : scatter_S1x768_S2_S192_0_0_01_0.start (ix1 c) (placeT o) 1 = o.toInt := by
    unfold ScatterDims.start
    exact (dif_pos (show (1 : Fin 2) ∈ ([0, 1] : List (Fin 2)) from by decide)).trans rfl
  have w0 : scatter_S1x768_S2_S192_0_0_01_0.window (ix1 c) 0 = 0 := rfl
  have w1 : scatter_S1x768_S2_S192_0_0_01_0.window (ix1 c) 1 = c.val := rfl
  rw [s0, s1, w0, w1]
  simp

/-- A third of the biases written at column `n`, read at an index. -/
theorem row_at (X : FVec Ideal S1x768 .f32) (U : FVec Ideal S192 .f32) (o : BitVec 32) (n : ℕ) (ho : o.toInt = n) (c : Fin 768) :
    Host.scatter scatter_S1x768_S2_S192_0_0_01_0 (fun _ b => b) X (placeT o) U (ix2 0 c)
      = if h : n ≤ c.val ∧ c.val < n + 192 then U (ix1 ⟨c.val - n, by omega⟩) else X (ix2 0 c) := by
  split
  · rename_i h
    refine Routing.scatter_set_hit _ _ _ _ _ _ (fun i hi => ?_) (ix1 ⟨c.val - n, by omega⟩) ?_
    · obtain ⟨b, rfl⟩ : ∃ b, i = ix1 b := ⟨i 0, by funext z; match z with | ⟨0, _⟩ => rfl⟩
      have e := (lands_row o b c).1 hi
      refine congrArg U (congrArg ix1 (Fin.ext ?_))
      show b.val = c.val - n
      omega
    · refine (lands_row _ _ _).2 ?_
      show o.toInt + ((c.val - n : ℕ) : ℤ) = c.val
      omega
  · rename_i h
    refine Routing.scatter_set_miss _ _ _ _ _ fun i hi => h ?_
    obtain ⟨b, rfl⟩ : ∃ b, i = ix1 b := ⟨i 0, by funext z; match z with | ⟨0, _⟩ => rfl⟩
    have e := (lands_row o b c).1 hi
    have hb : b.val < 192 := b.isLt
    omega

/-- The scale's value. -/
abbrev scaleV : EReal := Ideal.pow (Ideal.ofBits .f32 0x42000000#32) (Ideal.ofBits .f32 0xBF000000#32)

/-- The weights the kernel takes, by thirds of 256 columns: the argument's columns, the first third scaled, zero past 192. -/
theorem weights_at (W : FVec Ideal S192x576 .f32) (k : Fin 192) (c : Fin 768) :
    weightsT W (ix2 k c)
      = if h : c.val < 192 then W (ix2 k ⟨c.val, by omega⟩) * scaleV
        else if h : 256 ≤ c.val ∧ c.val < 448 then W (ix2 k ⟨c.val - 64, by omega⟩)
        else if h : 512 ≤ c.val ∧ c.val < 704 then W (ix2 k ⟨c.val - 128, by omega⟩) else 0 := by
  unfold weightsT
  have cast : ∀ X : FVec Ideal S192x768 .f32, (truncf .bf16 X bitsLt_bf16_f32 : FVec Ideal S192x768 .bf16) (ix2 k c) = X (ix2 k c) := fun X => by pointwise
  rw [cast]
  rw [cols_at _ _ 512#32 512 (by decide), cols_at _ _ 256#32 256 (by decide), cols_at _ _ 0#32 0 (by decide)]
  by_cases h1 : 512 ≤ c.val ∧ c.val < 704
  · rw [dif_pos ⟨h1.1, by omega⟩, dif_neg (by omega), dif_neg (by omega), dif_pos h1]
    pointwise
    refine congrArg (fun o => W (ix2 k o)) (Fin.ext ?_); simp only []; omega
  rw [dif_neg (by omega)]
  by_cases h2 : 256 ≤ c.val ∧ c.val < 448
  · rw [dif_pos ⟨h2.1, by omega⟩, dif_neg (by omega), dif_pos h2]
    pointwise
    refine congrArg (fun o => W (ix2 k o)) (Fin.ext ?_); simp only []; omega
  rw [dif_neg (by omega)]
  by_cases h3 : c.val < 192
  · rw [dif_pos ⟨by omega, by omega⟩, dif_pos h3]
    unfold scaleT
    pointwise
  rw [dif_neg (by omega), dif_neg h3, dif_neg h2, dif_neg h1]
  pointwise

/-- The biases the kernel takes, likewise. -/
theorem biases_at (B : FVec Ideal S576 .f32) (c : Fin 768) :
    biasesT B (ix2 0 c)
      = if h : c.val < 192 then B (ix1 ⟨c.val, by omega⟩) * scaleV
        else if h : 256 ≤ c.val ∧ c.val < 448 then B (ix1 ⟨c.val - 64, by omega⟩)
        else if h : 512 ≤ c.val ∧ c.val < 704 then B (ix1 ⟨c.val - 128, by omega⟩) else 0 := by
  unfold biasesT
  rw [row_at _ _ 512#32 512 (by decide), row_at _ _ 256#32 256 (by decide), row_at _ _ 0#32 0 (by decide)]
  by_cases h1 : 512 ≤ c.val ∧ c.val < 704
  · rw [dif_pos ⟨h1.1, by omega⟩, dif_neg (by omega), dif_neg (by omega), dif_pos h1]
    pointwise
    all_goals (refine congrArg (fun o => B (ix1 o)) (Fin.ext ?_); simp only []; omega)
  rw [dif_neg (by omega)]
  by_cases h2 : 256 ≤ c.val ∧ c.val < 448
  · rw [dif_pos ⟨h2.1, by omega⟩, dif_neg (by omega), dif_pos h2]
    pointwise
    all_goals (refine congrArg (fun o => B (ix1 o)) (Fin.ext ?_); simp only []; omega)
  rw [dif_neg (by omega)]
  by_cases h3 : c.val < 192
  · rw [dif_pos ⟨by omega, by omega⟩, dif_pos h3]
    unfold scaleT
    pointwise
  rw [dif_neg (by omega), dif_neg h3, dif_neg h2, dif_neg h1]
  pointwise

/-- The projection's bias. -/
theorem projB_at (B : FVec Ideal S192 .f32) (c : Fin 192) : projBT B (ix2 0 c) = B (ix1 c) := by
  unfold projBT
  pointwise

/-- The first columns of the heads' channels. -/
theorem ones_at (H : FVec Ideal S384x256 .f32) (r : Fin 384) (c : Fin 192) : onesT H (ix2 r c) = H (ix2 r ⟨c.val, by omega⟩) := by
  unfold onesT headsT
  pointwise

/-- The mask and the relative bias at a class, a query and a head's key. -/
theorem added_at (T : FVec Ideal S169x6 .f32) (R : IVec S64x64 32) (M : FVec Ideal S4x64x64 .f32) (a : Fin 4) (t : Fin 64) (r : Fin 384)
    (q : Fin 169) (hq : R (ix2 t ⟨r.val % 64, Nat.mod_lt _ (by omega)⟩) = BitVec.ofNat 32 q.val) :
    addedT T R M (ix3 a t r) = M (ix3 a t ⟨r.val % 64, Nat.mod_lt _ (by omega)⟩) + T (ix2 q ⟨r.val / 64, by omega⟩) := by
  unfold addedT
  have e : (broadcastInDim S64x64x1 ![0, 1] bcast_S64x64_S64x64x1_0_1
            (select (cmpi .slt R (broadcastInDim S64x64 ![] bcast_S_S64x64 (constantI S_ 32 0#32)))
              (addi R (broadcastInDim S64x64 ![] bcast_S_S64x64 (constantI S_ 32 169#32))) R)) (ix3 t ⟨r.val % 64, Nat.mod_lt _ (by omega)⟩ 0)
      = Scalar.select (IntOp.cmpi .slt (BitVec.ofNat 32 q.val) 0#32) (IntOp.addi (BitVec.ofNat 32 q.val) 169#32) (BitVec.ofNat 32 q.val) := by
    pointwise
    rw [hq]
  revert e
  generalize (broadcastInDim S64x64x1 ![0, 1] bcast_S64x64_S64x64x1_0_1
            (select (cmpi .slt R (broadcastInDim S64x64 ![] bcast_S_S64x64 (constantI S_ 32 0#32)))
              (addi R (broadcastInDim S64x64 ![] bcast_S_S64x64 (constantI S_ 32 169#32))) R)) = I
  intro e
  have g : Host.gather gather_S169x6_S64x64x1_S64x64x6_2_0_n_n_0_2_16 T I (ix3 t ⟨r.val % 64, Nat.mod_lt _ (by omega)⟩ ⟨r.val / 64, by omega⟩) = T (ix2 q ⟨r.val / 64, by omega⟩) := by
    refine (Cert.Take.gather_rows_apply (by decide) _ T I _ _ _).trans ?_
    refine congrArg T (congrArg (fun o => ix2 o _) (Fin.ext ?_))
    show min (BitVec.toInt _).toNat (169 - 1) = q.val
    rw [e]
    clear e hq
    revert q
    decide +kernel
  rw [← g]
  generalize Host.gather gather_S169x6_S64x64x1_S64x64x6_2_0_n_n_0_2_16 T I = G
  pointwise

end Cert.KernelIdeal.Hosted

end
-- ==== Proof.Tables.lean ====
/- The kernel's three tables, entry by entry. -/
module

public import proofs.«01_k».proof.Proof.HostV
public import proofs.«01_k».proof.Proof.Model
public import Idealize.ShloMosaic.Lib.Pointwise

@[expose] public section

set_option maxRecDepth 16384

noncomputable section

namespace Cert.KernelIdeal.Hosted

open Cert.KernelIdeal Cert.KernelIdeal.Gen Idealize.ShloMosaic Idealize.ShloMosaic.TcCoe Idealize.SL.Sem Idealize.ShloMosaic.StableHlo

/-- The token of the window's position `p`: rows of eight where the window has rows of seven. -/
def tok (p : Fin 49) : Fin 64 := ⟨8 * (p.val / 7) + p.val % 7, by omega⟩

/-- The position a token stands for, a token past a row or past the last row standing for the nearest one inside. -/
def near (t : Fin 64) : Fin 49 := ⟨7 * min (t.val / 8) 6 + min (t.val % 8) 6, by omega⟩

/-- A token outside the window. -/
def padded (t : Fin 64) : Bool := decide (7 ≤ t.val / 8) || decide (7 ≤ t.val % 8)

/-- A window of each class. -/
def ofClass (a : Fin 4) : Fin 64 := ⟨56 * (a.val / 2) + 7 * (a.val % 2), by omega⟩

/-- The first table: the relative position of every two tokens. -/
theorem rel_entry : ∀ t j : Fin 64, lit0t (64 * t.val + j.val) = BitVec.ofNat 32 (Cert.Swin.rel (near t) (near j)).val := by decide +kernel

/-- The second table: nothing for a key outside the window, zero inside a region, a large negative number across. -/
theorem mask_entry : ∀ (a : Fin 4) (t j : Fin 64), lit1t (4096 * a.val + 64 * t.val + j.val)
    = if padded j then 0xFF800000#32
      else if Cert.Swin.regionOf (ofClass a) (near t) = Cert.Swin.regionOf (ofClass a) (near j) then 0x00000000#32 else 0xC2C80000#32 := by decide +kernel

/-- The table of relative positions, read at two tokens. -/
theorem relT_at (t j : Fin 64) : relT (ix2 t j) = BitVec.ofNat 32 (Cert.Swin.rel (near t) (near j)).val := by
  rw [← rel_entry]
  unfold relT
  refine congrArg lit0t (a₁ := (S64x64.rowMajor (ix2 t j)).val) ?_
  rw [Shape.rowMajor_val_two]
  show t.val * 64 + j.val = _
  omega

/-- The table of masks, read at a class and two tokens. -/
theorem maskT_at (a : Fin 4) (t j : Fin 64) : maskT (ix3 a t j)
    = if padded j then Ideal.ofBits .f32 0xFF800000#32
      else if Cert.Swin.regionOf (ofClass a) (near t) = Cert.Swin.regionOf (ofClass a) (near j) then Ideal.ofBits .f32 0x00000000#32 else Ideal.ofBits .f32 0xC2C80000#32 := by
  have e : maskT (ix3 a t j) = Ideal.ofBits .f32 (lit1t (4096 * a.val + 64 * t.val + j.val)) := by
    unfold maskT
    refine congrArg (fun i => Ideal.ofBits .f32 (lit1t i)) (a₁ := (S4x64x64.rowMajor (ix3 a t j)).val) ?_
    rw [Shape.rowMajor_val_three]
    show (a.val * 64 + t.val) * 64 + j.val = _
    omega
  rw [e, mask_entry]
  split
  · rfl
  · split <;> rfl

end Cert.KernelIdeal.Hosted

end
-- ==== Proof.TableHead.lean ====
/- The kernel's table of the heads' channels, entry by entry. -/
module

public import proofs.«01_k».proof.Proof.Tables
public import Idealize.ShloMosaic.Lib.Pointwise

@[expose] public section

set_option maxRecDepth 16384

noncomputable section

namespace Cert.KernelIdeal.Hosted

open Cert.KernelIdeal Cert.KernelIdeal.Gen Idealize.ShloMosaic Idealize.ShloMosaic.TcCoe Idealize.SL.Sem Idealize.ShloMosaic.StableHlo

set_option maxHeartbeats 8000000 in  -- some nine thousand entries of the table for each head
/-- The third table, by heads: one where the channel is the head's, zero elsewhere. -/
theorem head_entry : ∀ (h : Fin 6) (p : Fin 49) (c : Fin 192),
    lit2t (256 * (64 * h.val + (tok p).val) + c.val) = if c.val / 32 = h.val then 0x3F800000#32 else 0x00000000#32
  | 0 => by decide +kernel
  | 1 => by decide +kernel
  | 2 => by decide +kernel
  | 3 => by decide +kernel
  | 4 => by decide +kernel
  | 5 => by decide +kernel

/-- The head table, read at a stacked row and a channel. -/
theorem headT_at (h : Fin 6) (p : Fin 49) (c : Fin 192) :
    headT (ix2 ⟨64 * h.val + (tok p).val, by omega⟩ ⟨c.val, by omega⟩) = if c.val / 32 = h.val then 1 else 0 := by
  have e : headT (ix2 ⟨64 * h.val + (tok p).val, by omega⟩ ⟨c.val, by omega⟩) = Ideal.ofBits .f32 (lit2t (256 * (64 * h.val + (tok p).val) + c.val)) := by
    unfold headT
    refine congrArg (fun i => Ideal.ofBits .f32 (lit2t i)) (a₁ := (S384x256.rowMajor (ix2 _ _)).val) ?_
    rw [Shape.rowMajor_val_two]
    show (64 * h.val + (tok p).val) * 256 + c.val = _
    omega
  rw [e, head_entry]
  split
  · simp [Ideal.ofBits, Ideal.ieee, -EReal.coe_mul]; norm_num
  · simp [Ideal.ofBits, Ideal.ieee, -EReal.coe_mul]

end Cert.KernelIdeal.Hosted

end
-- ==== Proof.Equation.lean ====
/- What the kernel's body leaves is the mathematics of the windows' attention. -/
module

public import proofs.«01_k».proof.Proof.Val3
public import proofs.«01_k».proof.Proof.HostVal
public import proofs.«01_k».proof.Proof.TableHead
public import proofs.«01_k».proof.Proof.Softmax

@[expose] public section

set_option maxRecDepth 16384

noncomputable section

namespace Cert.KernelIdeal.Meaning

open Cert.KernelIdeal Cert.KernelIdeal.Gen Cert.KernelIdeal.Hosted Cert.KernelIdeal.Body Idealize.ShloMosaic Idealize.ShloMosaic.TcCoe Idealize.SL.Sem Cert.Swin

section Equation

variable (x : Img.Idx → EReal) (W : WQkv.Idx → EReal) (B : BQkv.Idx → EReal) (T : Table.Idx → EReal) (PW : WProj.Idx → EReal) (PB : BProj.Idx → EReal)
  (x0 : Vec Ideal S2x56x56x192 .f32) (b' : Fin 2) (b : Fin 64) (h0 : ∀ (r s : Fin 56) (c : Fin 192), x0 (ix4 b' r s c) = x (ix4 b r s c))

/-- The window a row and a column of windows name. -/
def win (wh ww : Fin 8) : Fin 64 := ⟨8 * wh.val + ww.val, by omega⟩

include h0

/-- The kernel's scaled queries at a position of the window. -/
theorem query_at (wh ww : Fin 8) (p : Fin 49) (h : Fin 6) (d : Fin 32)
    (hx : ∀ i, IsReal (x i)) (hW : ∀ i, IsReal (W i)) (hB : ∀ i, IsReal (B i)) :
    bQkv x0 (weightsT W) (biasesT B) b' wh ww (tok p) ⟨32 * h.val + d.val, by omega⟩ = qkvAt x W B b (win wh ww) p 0 h d * scale := by
  unfold bQkv qkvAt lin
  rw [add_mul_real (real_sum _ _ fun _ => real_mul (hx _) (hW _)) (hB _) real_scale, sum_mul_real _ _ _ (fun _ => real_mul (hx _) (hW _)) real_scale]
  refine congrArg₂ (· + ·) (Finset.sum_congr rfl fun c _ => ?_) ?_
  · rw [h0, Hosted.weights_at, dif_pos (by show 32 * h.val + d.val < 192; omega), ← mul_assoc]
    refine congrArg (· * scale) (congrArg₂ (· * ·) (congrArg x (congrArg₂ (fun r s => ix4 b r s c) (Fin.ext ?_) (Fin.ext ?_))) (congrArg (fun o => W (ix2 c o)) (Fin.ext ?_)))
    · show (7 * wh.val + (8 * (p.val / 7) + p.val % 7) / 8 + 3) % 56 = (7 * ((8 * wh.val + ww.val) / 8) + p.val / 7 + 3) % 56
      omega
    · show (7 * ww.val + (8 * (p.val / 7) + p.val % 7) % 8 + 3) % 56 = (7 * ((8 * wh.val + ww.val) % 8) + p.val % 7 + 3) % 56
      omega
    · show 32 * h.val + d.val = 192 * 0 + 32 * h.val + d.val
      omega
  · rw [biases_at, dif_pos (by show 32 * h.val + d.val < 192; omega)]
    refine congrArg (fun o => B (ix1 o) * scale) (Fin.ext ?_)
    show 32 * h.val + d.val = 192 * 0 + 32 * h.val + d.val
    omega

/-- The kernel's keys and values at a position of the window. -/
theorem other_at (wh ww : Fin 8) (p : Fin 49) (k : Fin 3) (hk : k ≠ 0) (h : Fin 6) (d : Fin 32) :
    bQkv x0 (weightsT W) (biasesT B) b' wh ww (tok p) ⟨256 * k.val + 32 * h.val + d.val, by omega⟩ = qkvAt x W B b (win wh ww) p k h d := by
  have hk' : k.val ≠ 0 := fun e => hk (Fin.ext e)
  unfold bQkv qkvAt lin
  refine congrArg₂ (· + ·) (Finset.sum_congr rfl fun c _ => ?_) ?_
  · rw [h0, Hosted.weights_at, dif_neg (by show ¬ 256 * k.val + 32 * h.val + d.val < 192; omega)]
    refine congrArg₂ (· * ·) (congrArg x (congrArg₂ (fun r s => ix4 b r s c) (Fin.ext ?_) (Fin.ext ?_))) ?_
    · show (7 * wh.val + (8 * (p.val / 7) + p.val % 7) / 8 + 3) % 56 = (7 * ((8 * wh.val + ww.val) / 8) + p.val / 7 + 3) % 56
      omega
    · show (7 * ww.val + (8 * (p.val / 7) + p.val % 7) % 8 + 3) % 56 = (7 * ((8 * wh.val + ww.val) % 8) + p.val % 7 + 3) % 56
      omega
    · by_cases h1 : k.val = 1
      · rw [dif_pos (by show 256 ≤ 256 * k.val + 32 * h.val + d.val ∧ 256 * k.val + 32 * h.val + d.val < 448; omega)]
        refine congrArg (fun o => W (ix2 c o)) (Fin.ext ?_)
        show 256 * k.val + 32 * h.val + d.val - 64 = 192 * k.val + 32 * h.val + d.val
        omega
      · rw [dif_neg (by show ¬ (256 ≤ 256 * k.val + 32 * h.val + d.val ∧ 256 * k.val + 32 * h.val + d.val < 448); omega),
          dif_pos (by show 512 ≤ 256 * k.val + 32 * h.val + d.val ∧ 256 * k.val + 32 * h.val + d.val < 704; omega)]
        refine congrArg (fun o => W (ix2 c o)) (Fin.ext ?_)
        show 256 * k.val + 32 * h.val + d.val - 128 = 192 * k.val + 32 * h.val + d.val
        omega
  · rw [biases_at, dif_neg (by show ¬ 256 * k.val + 32 * h.val + d.val < 192; omega)]
    by_cases h1 : k.val = 1
    · rw [dif_pos (by show 256 ≤ 256 * k.val + 32 * h.val + d.val ∧ 256 * k.val + 32 * h.val + d.val < 448; omega)]
      refine congrArg (fun o => B (ix1 o)) (Fin.ext ?_)
      show 256 * k.val + 32 * h.val + d.val - 64 = 192 * k.val + 32 * h.val + d.val
      omega
    · rw [dif_neg (by show ¬ (256 ≤ 256 * k.val + 32 * h.val + d.val ∧ 256 * k.val + 32 * h.val + d.val < 448); omega),
        dif_pos (by show 512 ≤ 256 * k.val + 32 * h.val + d.val ∧ 256 * k.val + 32 * h.val + d.val < 704; omega)]
      refine congrArg (fun o => B (ix1 o)) (Fin.ext ?_)
      show 256 * k.val + 32 * h.val + d.val - 128 = 192 * k.val + 32 * h.val + d.val
      omega

omit h0 in
/-- The kernel's columns past the last head's hold zero. -/
theorem query_past (wh ww : Fin 8) (t : Fin 64) (c : Fin 256) (hc : 192 ≤ c.val) :
    bQkv x0 (weightsT W) (biasesT B) b' wh ww t ⟨c.val, by omega⟩ = 0 := by
  unfold bQkv
  rw [biases_at, dif_neg (by show ¬ c.val < 192; omega), dif_neg (by show ¬ (256 ≤ c.val ∧ c.val < 448); omega), dif_neg (by show ¬ (512 ≤ c.val ∧ c.val < 704); omega), add_zero]
  refine Finset.sum_eq_zero fun c' _ => ?_
  rw [Hosted.weights_at, dif_neg (by show ¬ c.val < 192; omega), dif_neg (by show ¬ (256 ≤ c.val ∧ c.val < 448); omega), dif_neg (by show ¬ (512 ≤ c.val ∧ c.val < 704); omega), mul_zero]

/-- The row of the kernel's stacked keys that holds a head's key at a position. -/
def keyRow (h : Fin 6) (p : Fin 49) : Fin 384 := ⟨64 * h.val + (tok p).val, by omega⟩

omit h0 in
/-- The token of a stacked row. -/
theorem keyRow_mod (h : Fin 6) (p : Fin 49) (H) : (⟨(keyRow h p).val % 64, H⟩ : Fin 64) = tok p :=
  Fin.ext (by show (64 * h.val + (tok p).val) % 64 = (tok p).val; omega)

/-- The product of a query and a stacked key is the head's own. -/
theorem dot_at (wh ww : Fin 8) (p p' : Fin 49) (h : Fin 6)
    (hx : ∀ i, IsReal (x i)) (hW : ∀ i, IsReal (W i)) (hB : ∀ i, IsReal (B i)) :
    (∑ c : Fin 256, bQkv x0 (weightsT W) (biasesT B) b' wh ww (tok p) ⟨c.val, by omega⟩
      * (bQkv x0 (weightsT W) (biasesT B) b' wh ww (tok p') ⟨256 + c.val, by omega⟩ * headsT headT (ix2 (keyRow h p') c)))
      = ∑ d : Fin 32, qkvAt x W B b (win wh ww) p 0 h d * scale * qkvAt x W B b (win wh ww) p' 1 h d := by
  have hc : ∀ c : Fin 256, (headsT headT : FVec Ideal S384x256 .bf16) (ix2 (keyRow h p') c) = headT (ix2 (keyRow h p') c) := fun c => by
    unfold headsT
    generalize headT = H
    pointwise
  rw [sum_head _ h fun c hne => ?_]
  · refine Finset.sum_congr rfl fun d _ => ?_
    have hh := headT_at h p' ⟨32 * h.val + d.val, by omega⟩
    rw [if_pos (by show (32 * h.val + d.val) / 32 = h.val; omega)] at hh
    rw [hc]
    refine congrArg₂ (· * ·) (query_at x W B x0 b' b h0 wh ww p h d hx hW hB) ?_
    refine (congrArg₂ (· * ·) ?_ hh).trans (mul_one _)
    refine Eq.trans (congrArg _ (Fin.ext ?_)) (other_at x W B x0 b' b h0 wh ww p' 1 (by decide) h d)
    show 256 + (32 * h.val + d.val) = 256 * 1 + 32 * h.val + d.val
    omega
  · by_cases hc' : c.val < 192
    · have hh := headT_at h p' ⟨c.val, hc'⟩
      rw [if_neg hne] at hh
      rw [hc]
      refine (congrArg (fun z => _ * (_ * z)) hh).trans ?_
      rw [mul_zero, mul_zero]
    · rw [query_past W B x0 b' wh ww (tok p) c (by omega), zero_mul]

omit h0 in
/-- The mask the kernel adds depends on the window by its class alone. -/
theorem region_cls : ∀ (wh ww : Fin 8) (p : Fin 49), regionOf (ofClass (cls wh ww)) p = regionOf (win wh ww) p := by decide +kernel

omit h0 in
/-- A token inside the window stands for its own position. -/
theorem near_tok : ∀ p : Fin 49, near (tok p) = p := by decide +kernel

omit h0 in
/-- No position's token is outside the window. -/
theorem padded_tok : ∀ p : Fin 49, padded (tok p) = false := by decide +kernel

omit h0 in
/-- What the kernel adds to a head's score at a position of the window. -/
theorem addend_at (wh ww : Fin 8) (p p' : Fin 49) (h : Fin 6) :
    addedT T relT maskT (ix3 (cls wh ww) (tok p) (keyRow h p'))
      = (if regionOf (win wh ww) p = regionOf (win wh ww) p' then Ideal.ofBits .f32 0x00000000#32 else Ideal.ofBits .f32 0xC2C80000#32) + T (ix2 (rel p p') h) := by
  rw [added_at T relT maskT (cls wh ww) (tok p) (keyRow h p') (rel p p') (by rw [keyRow_mod, relT_at, near_tok, near_tok])]
  rw [keyRow_mod, maskT_at, padded_tok, near_tok, near_tok, region_cls, region_cls]
  refine congrArg₂ (· + ·) (if_neg (by decide)) (congrArg (fun o => T (ix2 _ o)) (Fin.ext ?_))
  show (64 * h.val + (tok p').val) / 64 = h.val
  omega

/-- The weight of a key at a position of the window. -/
theorem weight_at (wh ww : Fin 8) (p p' : Fin 49) (h : Fin 6)
    (hx : ∀ i, IsReal (x i)) (hW : ∀ i, IsReal (W i)) (hB : ∀ i, IsReal (B i)) :
    bExp x0 (weightsT W) (biasesT B) (addedT T relT maskT) (headsT headT) b' wh ww (tok p) (keyRow h p')
      = Ideal.exp (score x W B T b (win wh ww) h p p') := by
  unfold bExp score
  rw [keyRow_mod, dot_at x W B x0 b' b h0 wh ww p p' h hx hW hB, addend_at, add_comm (ite _ _ _) (T _), add_assoc]

omit h0 in
/-- The word of minus infinity. -/
theorem negInf : Ideal.ofBits .f32 0xFF800000#32 = (⊥ : EReal) := by simp [Ideal.ofBits, Ideal.ieee, -EReal.coe_mul]

omit h0 in
/-- A key outside the window weighs nothing. -/
theorem weight_padded (wh ww : Fin 8) (t : Fin 64) (r : Fin 384) (hr : padded ⟨r.val % 64, Nat.mod_lt _ (by decide)⟩ = true) :
    bExp x0 (weightsT W) (biasesT B) (addedT T relT maskT) (headsT headT) b' wh ww t r = 0 := by
  unfold bExp
  rw [added_at T relT maskT (cls wh ww) t r _ (relT_at _ _), maskT_at, hr, if_pos rfl, negInf, EReal.bot_add, EReal.add_bot]
  rfl

omit h0 in
/-- A sum over the stacked keys of a term that is zero outside the window and off a head. -/
theorem sum_keys (f : Fin 384 → EReal) (h : Fin 6) (hp : ∀ r : Fin 384, padded ⟨r.val % 64, Nat.mod_lt _ (by decide)⟩ = true → f r = 0)
    (hf : ∀ (h' : Fin 6) (p : Fin 49), h' ≠ h → f (keyRow h' p) = 0) :
    ∑ r : Fin 384, f r = ∑ p : Fin 49, f (keyRow h p) := by
  have tok_inj : ∀ p p' : Fin 49, tok p = tok p' → p = p' := fun p p' e => by rw [← near_tok p, e, near_tok]
  refine (Fintype.sum_of_injective (keyRow h) (fun a b e => tok_inj a b (Fin.ext ?_)) _ _ (fun r hr => ?_) fun _ => rfl).symm
  · have := congrArg Fin.val e
    change 64 * h.val + (tok a).val = 64 * h.val + (tok b).val at this
    omega
  · by_cases hpad : padded ⟨r.val % 64, Nat.mod_lt _ (by decide)⟩ = true
    · exact hp r hpad
    · have hn : ∀ t : Fin 64, ¬ padded t = true → tok (near t) = t := by decide +kernel
      have e : r = keyRow ⟨r.val / 64, by omega⟩ (near ⟨r.val % 64, Nat.mod_lt _ (by decide)⟩) := by
        refine Fin.ext ?_
        show r.val = 64 * (r.val / 64) + (tok (near ⟨r.val % 64, Nat.mod_lt _ (by decide)⟩)).val
        rw [hn _ hpad]
        show r.val = 64 * (r.val / 64) + r.val % 64
        omega
      rw [e]
      refine hf _ _ fun eh => hr ⟨near ⟨r.val % 64, Nat.mod_lt _ (by decide)⟩, ?_⟩
      rw [← eh]
      exact e.symm

omit h0 in
/-- The head table at a stacked row of a channel. -/
theorem head_col (h : Fin 6) (p : Fin 49) (c : Fin 192) :
    (headsT headT : FVec Ideal S384x256 .bf16) (ix2 (keyRow h p) ⟨c.val, by omega⟩) = if c.val / 32 = h.val then 1 else 0 := by
  rw [← headT_at h p c]
  unfold headsT
  generalize headT = H
  pointwise
  rfl

omit h0 in
/-- The columns of ones at a stacked row of a channel. -/
theorem ones_col (h : Fin 6) (p : Fin 49) (c : Fin 192) :
    onesT headT (ix2 (keyRow h p) c) = if c.val / 32 = h.val then 1 else 0 := by
  rw [← headT_at h p c, ones_at]
  rfl

/-- The weighted sum of the values over the stacked keys is the head's own. -/
theorem num_at (wh ww : Fin 8) (p : Fin 49) (c : Fin 192) (h : Fin 6) (hc : h.val = c.val / 32)
    (hx : ∀ i, IsReal (x i)) (hW : ∀ i, IsReal (W i)) (hB : ∀ i, IsReal (B i)) :
    (∑ r : Fin 384, bExp x0 (weightsT W) (biasesT B) (addedT T relT maskT) (headsT headT) b' wh ww (tok p) r
      * (bQkv x0 (weightsT W) (biasesT B) b' wh ww ⟨r.val % 64, Nat.mod_lt _ (by decide)⟩ ⟨512 + c.val, by omega⟩ * headsT headT (ix2 r ⟨c.val, by omega⟩)))
      = ∑ p' : Fin 49, Ideal.exp (score x W B T b (win wh ww) h p p') * qkvAt x W B b (win wh ww) p' 2 h ⟨c.val % 32, Nat.mod_lt _ (by omega)⟩ := by
  rw [sum_keys _ h (fun r hr => ?_) fun h' p' hne => ?_]
  · refine Finset.sum_congr rfl fun p' _ => ?_
    rw [weight_at x W B T x0 b' b h0 wh ww p p' h hx hW hB, keyRow_mod, head_col, if_pos hc.symm, mul_one]
    refine congrArg (_ * ·) (Eq.trans (congrArg _ (Fin.ext ?_)) (other_at x W B x0 b' b h0 wh ww p' 2 (by decide) h ⟨c.val % 32, Nat.mod_lt _ (by omega)⟩))
    show 512 + c.val = 256 * 2 + 32 * h.val + c.val % 32
    omega
  · rw [weight_padded W B T x0 b' wh ww (tok p) r hr, zero_mul]
  · rw [head_col, if_neg fun e => hne (Fin.ext (by omega)), mul_zero, mul_zero]

/-- The sum of the weights over the stacked keys is the head's own. -/
theorem den_at (wh ww : Fin 8) (p : Fin 49) (c : Fin 192) (h : Fin 6) (hc : h.val = c.val / 32)
    (hx : ∀ i, IsReal (x i)) (hW : ∀ i, IsReal (W i)) (hB : ∀ i, IsReal (B i)) :
    (∑ r : Fin 384, bExp x0 (weightsT W) (biasesT B) (addedT T relT maskT) (headsT headT) b' wh ww (tok p) r * onesT headT (ix2 r c))
      = ∑ p' : Fin 49, Ideal.exp (score x W B T b (win wh ww) h p p') := by
  rw [sum_keys _ h (fun r hr => ?_) fun h' p' hne => ?_]
  · refine Finset.sum_congr rfl fun p' _ => ?_
    rw [weight_at x W B T x0 b' b h0 wh ww p p' h hx hW hB, ones_col, if_pos hc.symm, mul_one]
  · rw [weight_padded W B T x0 b' wh ww (tok p) r hr, zero_mul]
  · rw [ones_col, if_neg fun e => hne (Fin.ext (by omega)), mul_zero]

omit h0 in
/-- The word of zero. -/
theorem zeroBits : Ideal.ofBits .f32 0x00000000#32 = (0 : EReal) := by simp [Ideal.ofBits, Ideal.ieee, -EReal.coe_mul]

omit h0 in
/-- The number added across regions is a real number. -/
theorem real_far : IsReal (Ideal.ofBits .f32 0xC2C80000#32) :=
  ⟨-100, by simp [Ideal.ofBits, Ideal.ieee, -EReal.coe_mul]; norm_num⟩

omit h0 in
/-- Queries, keys and values of real arguments are real numbers. -/
theorem real_qkv (w : Fin 64) (p : Fin 49) (k : Fin 3) (h : Fin 6) (d : Fin 32)
    (hx : ∀ i, IsReal (x i)) (hW : ∀ i, IsReal (W i)) (hB : ∀ i, IsReal (B i)) : IsReal (qkvAt x W B b w p k h d) :=
  real_add (real_sum _ _ fun _ => real_mul (hx _) (hW _)) (hB _)

omit h0 in
/-- Scores of real arguments are real numbers. -/
theorem real_score (w : Fin 64) (h : Fin 6) (p p' : Fin 49)
    (hx : ∀ i, IsReal (x i)) (hW : ∀ i, IsReal (W i)) (hB : ∀ i, IsReal (B i)) (hT : ∀ i, IsReal (T i)) : IsReal (score x W B T b w h p p') := by
  refine real_add (real_add (real_sum _ _ fun d => real_mul (real_mul (real_qkv x W B b w p 0 h d hx hW hB) real_scale) (real_qkv x W B b w p' 1 h d hx hW hB)) (hT _)) ?_
  split
  · rw [zeroBits]
    exact ⟨0, rfl⟩
  · exact real_far

/-- The mixed values of the kernel at a position of the window. -/
theorem mixed_at (wh ww : Fin 8) (p : Fin 49) (c : Fin 192)
    (hx : ∀ i, IsReal (x i)) (hW : ∀ i, IsReal (W i)) (hB : ∀ i, IsReal (B i)) (hT : ∀ i, IsReal (T i)) :
    bMix x0 (weightsT W) (biasesT B) (addedT T relT maskT) (headsT headT) (onesT headT) b' wh ww (tok p) c = mixAt x W B T b (win wh ww) p c := by
  unfold bMix mixAt
  rw [num_at x W B T x0 b' b h0 wh ww p c ⟨c.val / 32, by omega⟩ rfl hx hW hB, den_at x W B T x0 b' b h0 wh ww p c ⟨c.val / 32, by omega⟩ rfl hx hW hB]
  choose s hs using fun p' => real_score x W B T b (win wh ww) ⟨c.val / 32, by omega⟩ p p' hx hW hB hT
  choose v hv using fun p' => real_qkv x W B b (win wh ww) p' 2 ⟨c.val / 32, by omega⟩ ⟨c.val % 32, Nat.mod_lt _ (by omega)⟩ hx hW hB
  unfold expAt top
  simp only [hs, hv, negInf]
  exact (softmax s v).symm

/-- The projected token of the kernel at a position of the window. -/
theorem token_at (wh ww : Fin 8) (p : Fin 49) (c : Fin 192)
    (hx : ∀ i, IsReal (x i)) (hW : ∀ i, IsReal (W i)) (hB : ∀ i, IsReal (B i)) (hT : ∀ i, IsReal (T i)) :
    bOut x0 (weightsT W) (biasesT B) (projT PW) (projBT PB) (addedT T relT maskT) (headsT headT) (onesT headT) b' wh ww (tok p) c
      = outAt x W B T PW PB b (win wh ww) p c := by
  unfold bOut outAt
  rw [projB_at]
  refine congrArg (· + _) (Finset.sum_congr rfl fun c' _ => ?_)
  rw [mixed_at x W B T x0 b' b h0 wh ww p c' hx hW hB hT]
  refine congrArg (_ * ·) ?_
  unfold projT
  pointwise

/-- The kernel's block at a pixel is the result there. -/
theorem block_at (r s : Fin 56) (c : Fin 192)
    (hx : ∀ i, IsReal (x i)) (hW : ∀ i, IsReal (W i)) (hB : ∀ i, IsReal (B i)) (hT : ∀ i, IsReal (T i)) :
    blockAt x0 (weightsT W) (biasesT B) (projT PW) (projBT PB) (addedT T relT maskT) (headsT headT) (onesT headT) b' r s c
      = result x W B T PW PB b r s c := by
  refine Eq.trans ?_ (token_at x W B T PW PB x0 b' b h0 ⟨(r.val + 53) % 56 / 7, by omega⟩ ⟨(s.val + 53) % 56 / 7, by omega⟩
    ⟨7 * ((r.val + 53) % 56 % 7) + (s.val + 53) % 56 % 7, by omega⟩ c hx hW hB hT)
  unfold blockAt
  refine congrArg (fun t => bOut _ _ _ _ _ _ _ _ _ _ _ t _) (Fin.ext ?_)
  show 8 * ((r.val + 53) % 56 % 7) + (s.val + 53) % 56 % 7 = 8 * ((7 * ((r.val + 53) % 56 % 7) + (s.val + 53) % 56 % 7) / 7) + (7 * ((r.val + 53) % 56 % 7) + (s.val + 53) % 56 % 7) % 7
  omega

end Equation

end Cert.KernelIdeal.Meaning

end
-- ==== Proof.WholeVal.lean ====
/- The kernel's result array: every block of two images, put in its place. -/
module

public import proofs.«01_k».proof.Proof.Run
public import proofs.«01_k».proof.Proof.HostV
public import proofs.«01_k».proof.Proof.Equation
public import Idealize.ShloMosaic.Lib.Pipeline.ValueKit

@[expose] public section

set_option maxRecDepth 16384

noncomputable section

namespace Cert.KernelIdeal.WholeVal

open Cert.KernelIdeal Cert.KernelIdeal.Gen Cert.KernelIdeal.Whole Cert.KernelIdeal.Hosted Cert.KernelIdeal.Body Cert.KernelIdeal.Meaning
open Idealize.ShloMosaic Idealize.ShloMosaic.TcCoe Idealize.SL.Sem Cert.Swin
open Idealize.ShloMosaic.Pipeline (Dat)

variable (m : (ℓ : Loc nD τ sig) → Buf (Elt Ideal) ℓ)

/-- Which block each window names at a grid point: two images move with the point, everything else stays. -/
theorem idx : ∀ t : Fin cfg0.N, win0_0.index t = ![t.val, 0, 0, 0] ∧ win0_1.index t = ![0, 0] ∧ win0_2.index t = ![0, 0] ∧ win0_3.index t = ![0, 0]
    ∧ win0_4.index t = ![0, 0] ∧ win0_5.index t = ![0, 0, 0] ∧ win0_6.index t = ![0, 0] ∧ win0_7.index t = ![0, 0] ∧ win0_8.index t = ![t.val, 0, 0, 0] :=
  (by decide +kernel : ∀ t : Fin grid0.N, _)

/-- The argument arrays a device holds. -/
abbrev aX (c : Dev nD) : Img.Idx → EReal := m ((c.tc : Thread nD τ).loc main_arg0)
abbrev aW (c : Dev nD) : WQkv.Idx → EReal := m ((c.tc : Thread nD τ).loc main_arg1)
abbrev aB (c : Dev nD) : BQkv.Idx → EReal := m ((c.tc : Thread nD τ).loc main_arg2)
abbrev aPW (c : Dev nD) : WProj.Idx → EReal := m ((c.tc : Thread nD τ).loc main_arg3)
abbrev aPB (c : Dev nD) : BProj.Idx → EReal := m ((c.tc : Thread nD τ).loc main_arg4)
abbrev aT (c : Dev nD) : Table.Idx → EReal := m ((c.tc : Thread nD τ).loc main_arg5)

/-- The image a block's slot holds. -/
def image (t : Fin cfg0.N) (b' : Fin 2) : Fin 64 := ⟨2 * t.val + b'.val, by
  have h := t.isLt
  have hN : cfg0.N = 32 := N_0
  omega⟩

/-- The first window's block: two images of the argument. -/
theorem in0 (c : Dev nD) (t : Fin cfg0.N) (b' : Fin 2) (r s : Fin 56) (d : Fin 192) :
    (iblk m c 0 t : Vec Ideal S2x56x56x192 .f32) (ix4 b' r s d) = aX m c (ix4 (image t b') r s d) := by
  refine Eq.trans ?_ (congrFun (V_main_arg0 m c) _)
  refine congrArg (V m c main_arg0) (funext fun a => Fin.ext ?_)
  match a with
  | 0 =>
    blk_simp [idx t]
    exact congrArg (· + b'.val) (Nat.mul_comm t.val 2)
  | 1 => blk_simp [idx t]
  | 2 => blk_simp [idx t]
  | 3 => blk_simp [idx t]

/-- The other windows' blocks are their whole arrays: the weights, -/
theorem in1 (c : Dev nD) (t : Fin cfg0.N) : (iblk m c 1 t : Vec Ideal S192x768 .bf16) = weightsT (aW m c) := by
  rw [← V_weights m c]
  funext i
  refine congrArg (V m c main_v31) (funext fun a => Fin.ext ?_)
  match a with
  | 0 => blk_simp [idx t]
  | 1 => blk_simp [idx t]

/-- the biases, -/
theorem in2 (c : Dev nD) (t : Fin cfg0.N) : (iblk m c 2 t : Vec Ideal S1x768 .f32) = biasesT (aB m c) := by
  rw [← V_biases m c]
  funext i
  blk_point [iblk, idx t]

/-- the projection weights, -/
theorem in3 (c : Dev nD) (t : Fin cfg0.N) : (iblk m c 3 t : Vec Ideal S192x192 .bf16) = projT (aPW m c) := by
  rw [← V_proj m c]
  funext i
  blk_point [iblk, idx t]

/-- the projection bias, -/
theorem in4 (c : Dev nD) (t : Fin cfg0.N) : (iblk m c 4 t : Vec Ideal S1x192 .f32) = projBT (aPB m c) := by
  rw [← V_projB m c]
  funext i
  blk_point [iblk, idx t]

/-- the bias and mask by class, -/
theorem in5 (c : Dev nD) (t : Fin cfg0.N) : (iblk m c 5 t : Vec Ideal S4x64x384 .f32) = addedT (aT m c) relT maskT := by
  rw [← V_added m c]
  funext i
  blk_point [iblk, idx t]

/-- the head table, -/
theorem in6 (c : Dev nD) (t : Fin cfg0.N) : (iblk m c 6 t : Vec Ideal S384x256 .bf16) = headsT headT := by
  rw [← V_heads m c]
  funext i
  blk_point [iblk, idx t]

/-- and the columns of ones. -/
theorem in7 (c : Dev nD) (t : Fin cfg0.N) : (iblk m c 7 t : Vec Ideal S384x192 .bf16) = onesT headT := by
  rw [← V_ones m c]
  funext i
  blk_point [iblk, idx t]

/-- What the body leaves of a block is the result at the images it holds. -/
theorem outs_at (c : Dev nD) (t : Fin cfg0.N) (b' : Fin 2) (r s : Fin 56) (d : Fin 192)
    (hx : ∀ i, IsReal (aX m c i)) (hW : ∀ i, IsReal (aW m c i)) (hB : ∀ i, IsReal (aB m c i)) (hT : ∀ i, IsReal (aT m c i)) :
    outsAt0 m c t (ix4 b' r s d) = result (aX m c) (aW m c) (aB m c) (aT m c) (aPW m c) (aPB m c) (image t b') r s d := by
  unfold outsAt0 out0_A_8
  rw [View.read_writes_junk_eq_canon, Body.stores_eq, stores_at, in1, in2, in3, in4, in5, in6, in7]
  exact block_at (aX m c) (aW m c) (aB m c) (aT m c) (aPW m c) (aPB m c) _ b' (image t b') (in0 m c t b') r s d hx hW hB hT

/-- The result array the equation speaks of. -/
def res (c : Dev nD) : Vec Ideal S64x56x56x192 .f32 := fun i =>
  result (aX m c) (aW m c) (aB m c) (aT m c) (aPW m c) (aPB m c) (i 0) (i 1) (i 2) (i 3)

/-- The array the grid writes is the result. -/
theorem final (c : Dev nD)
    (hx : ∀ i, IsReal (aX m c i)) (hW : ∀ i, IsReal (aW m c i)) (hB : ∀ i, IsReal (aB m c i)) (hT : ∀ i, IsReal (aT m c i)) :
    (dats m 0 c).arrAt 8 cfg0.N = res m c := by
  refine (dats m 0 c).arrAt_eq_of_covers 8 _ (by decide +kernel) fun t _ y => ?_
  blk_simp
  rw [after0_8]
  have hy : (win0_8.blk t).view.emb y = ix4 (image t (y 0)) (y 1) (y 2) (y 3) := by
    funext a
    refine Fin.ext ?_
    match a with
    | 0 =>
      blk_simp [idx t]
      exact congrArg (· + (y 0).val) (Nat.mul_comm t.val 2)
    | 1 => blk_simp [idx t]
    | 2 => blk_simp [idx t]
    | 3 => blk_simp [idx t]
  rw [hy]
  refine Eq.trans (congrArg (outsAt0 m c t) (?_ : _ = ix4 (y 0) (y 1) (y 2) (y 3))) (outs_at m c t (y 0) (y 1) (y 2) (y 3) hx hW hB hT)
  funext a
  match a with
  | 0 => rfl
  | 1 => rfl
  | 2 => rfl
  | 3 => rfl

end Cert.KernelIdeal.WholeVal

end
-- ==== Proof.RefWords.lean ====
/- The integer arrays of the reference, read at an index: the relative-position index, and the region ids whose
   differences decide the cyclic shift's mask. -/
module

public import proofs.«01_k».proof.Proof.Gen.ReferenceIdeal.Run
public import proofs.«01_k».proof.Proof.Model
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (V0 : Valuation τ sig (Elt Ideal))

/-- `t // 7` as the printed program computes it, at position `p`. -/
theorem row_word (p : Fin 49) : (res_main_v1 V0 : IVec S49 32) (ix1 p) = BitVec.ofNat 32 (p.val / 7) := by
  unfold res_main_v1 res_main_call0_v2 res_main_call0_v0 res_main_v0
  clean_types
  pointwise
  revert p
  decide +kernel

/-- `t % 7` as the printed program computes it, at position `p`. -/
theorem col_word (p : Fin 49) : (res_main_v2 V0 : IVec S49 32) (ix1 p) = BitVec.ofNat 32 (p.val % 7) := by
  unfold res_main_v2 res_main_call1_v4 res_main_call1_v2 res_main_call1_v0 res_main_v0
  clean_types
  pointwise
  revert p
  decide +kernel

/-- The relative-position index of the pair `(p, p')`. -/
theorem rel_word (p p' : Fin 49) : (res_main_v23 V0 : IVec S49x49 32) (ix2 p p')
    = BitVec.ofNat 32 ((p.val / 7 + 6 - p'.val / 7) * 13 + (p.val % 7 + 6 - p'.val % 7)) := by
  unfold res_main_v23
  clean_types
  pointwise
  rw [row_word, row_word, col_word, col_word]
  revert p p'
  decide +kernel

/-- The region id of position `p` of window `w`. -/
theorem region_word (w : Fin 64) (p : Fin 49) : (res_main_v57 V0 : IVec S64x49 32) (ix2 w p)
    = BitVec.ofNat 32 (Cert.Swin.regionOf w p) := by
  unfold res_main_v57 res_main_v43 res_main_v32
  clean_types
  pointwise
  revert w p
  decide +kernel

end Cert.ReferenceIdeal.Value

end
-- ==== Proof.RefQkv.lean ====
/- The reference's queries, keys and values read at an index. -/
module

public import proofs.«01_k».proof.Proof.RefWords
public import proofs.«01_k».proof.Proof.Model
public import Idealize.ShloMosaic.Lib.IdealHost

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Cert.Swin

variable (V0 : Valuation τ sig (Elt Ideal))

/-- The image argument, as a function on its indices; likewise the other arguments. -/
abbrev argX : Img.Idx → EReal := V0 (Proc.devRef .tc main_arg0)
abbrev argW : WQkv.Idx → EReal := V0 (Proc.devRef .tc main_arg1)
abbrev argB : BQkv.Idx → EReal := V0 (Proc.devRef .tc main_arg2)
abbrev argPW : WProj.Idx → EReal := V0 (Proc.devRef .tc main_arg3)
abbrev argPB : BProj.Idx → EReal := V0 (Proc.devRef .tc main_arg4)
abbrev argT : Table.Idx → EReal := V0 (Proc.devRef .tc main_arg5)

/-- The queries, keys and values: the affine map at the pixel a window's position names. -/
theorem qkv_at (b w : Fin 64) (p : Fin 49) (k : Fin 3) (h : Fin 6) (d : Fin 32) :
    (res_main_v75 V0 : FVec Ideal S64x64x49x3x6x32 .f32) (ix6 b w p k h d)
      = qkvAt (argX V0) (argW V0) (argB V0) b w p k h d := by
  unfold res_main_v75 res_main_call3_v2 qkvAt lin chan pix
  clean_types
  pointwise
  refine congrArg₂ (· + ·) (Finset.sum_congr rfl fun x _ => congrArg₂ (· * ·) ?_ ?_) ?_
  · split <;> split <;> refine congrArg (argX V0) (congrArg₂ (fun r s => ix4 b r s x) (Fin.ext ?_) (Fin.ext ?_)) <;> simp only [] <;> omega
  · refine congrArg (argW V0) (congrArg (fun o => ix2 x o) (Fin.ext ?_)); simp only []; omega
  · refine congrArg (argB V0) (congrArg (fun o => ix1 o) (Fin.ext ?_)); simp only []; omega

end Cert.ReferenceIdeal.Value

end
-- ==== Proof.RefOps.lean ====
/- The operations of the reference, each read at an index of an array given freely. -/
module

public import proofs.«01_k».proof.Proof.RefWords
public import proofs.«01_k».proof.Proof.Take
public import Idealize.ShloMosaic.Lib.IdealHost

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Cert.Swin

/-- The scores from the queries and keys, the bias and the mask. -/
theorem scores_pw (Q : FVec Ideal S64x64x49x3x6x32 .f32) (G : FVec Ideal S49x49x6 .f32) (M : FVec Ideal S64x49x49 .f32)
    (b w : Fin 64) (h : Fin 6) (p p' : Fin 49) :
    addf (addf (Host.dotGeneral dot_S64x64x49x6x32_S64x64x49x6x32_S64x64x6x49x49_4_4_2_2_013_013 none
        (mulf (shapeCast S64x64x49x6x32 (extractStridedSlice S64x64x49x1x6x32 ![0, 0, 0, 0, 0, 0] Q slices_S64x64x49x3x6x32_S64x64x49x1x6x32_0_0_0_0_0_0) shapeCasts_S64x64x49x1x6x32_S64x64x49x6x32)
          (broadcastInDim S64x64x49x6x32 ![] bcast_S_S64x64x49x6x32 (Host.powf (constant S_ .f32 0x42000000#32) (constant S_ .f32 0xBF000000#32))))
        (shapeCast S64x64x49x6x32 (extractStridedSlice S64x64x49x1x6x32 ![0, 0, 0, 1, 0, 0] Q slices_S64x64x49x3x6x32_S64x64x49x1x6x32_0_0_0_1_0_0) shapeCasts_S64x64x49x1x6x32_S64x64x49x6x32))
      (broadcastInDim S64x64x6x49x49 ![0, 1, 2, 3, 4] bcast_S1x1x6x49x49_S64x64x6x49x49_0_1_2_3_4 (broadcastInDim S1x1x6x49x49 ![2, 3, 4] bcast_S6x49x49_S1x1x6x49x49_2_3_4
        (transpose S6x49x49 [2, 0, 1] G transposes_S49x49x6_S6x49x49_2_0_1))))
      (broadcastInDim S64x64x6x49x49 ![0, 1, 2, 3, 4] bcast_S1x64x1x49x49_S64x64x6x49x49_0_1_2_3_4 (broadcastInDim S1x64x1x49x49 ![1, 3, 4] bcast_S64x49x49_S1x64x1x49x49_1_3_4 M))
      (ix5 b w h p p')
      = (∑ d : Fin 32, Q (ix6 b w p 0 h d) * scale * Q (ix6 b w p' 1 h d)) + G (ix3 p p' h) + M (ix3 w p p') := by
  pointwise
  rfl

/-- The largest score along the last axis, as a fold over the keys. -/
theorem top_pw (f : EReal → EReal → EReal) [Std.Commutative f] [Std.Associative f] (S : FVec Ideal S64x64x6x49x49 .f32) (c : FVec Ideal S_ .f32) (b w : Fin 64) (h : Fin 6) (p : Fin 49) :
    Host.reduce f S c reducesTo_S64x64x6x49x49_S64x64x6x49_d4 h_S_ (ix4 b w h p)
      = Finset.fold f (c (Shape.Idx.first h_S_)) (fun q : Fin 49 => S (ix5 b w h p q)) Finset.univ :=
  (Host.reduce_eq_fold f S c _ _ _).trans (Shape.ReducesTo.fold_fiber_r5_a4 reducesTo_S64x64x6x49x49_S64x64x6x49_d4 (ix4 b w h p) f _ S)

/-- The weights from the scores and the largest of each row. -/
theorem exps_pw (S : FVec Ideal S64x64x6x49x49 .f32) (R : FVec Ideal S64x64x6x49 .f32) (b w : Fin 64) (h : Fin 6) (p p' : Fin 49) :
    Host.exp (subf S (broadcastInDim S64x64x6x49x49 ![0, 1, 2, 3, 4] bcast_S64x64x6x49x1_S64x64x6x49x49_0_1_2_3_4 (broadcastInDim S64x64x6x49x1 ![0, 1, 2, 3] bcast_S64x64x6x49_S64x64x6x49x1_0_1_2_3
      (maximumf (broadcastInDim S64x64x6x49 ![] bcast_S_S64x64x6x49 (constant S_ .f32 0xFF800000#32)) R)))) (ix5 b w h p p')
      = Ideal.exp (S (ix5 b w h p p') - max (Ideal.ofBits .f32 0xFF800000#32) (R (ix4 b w h p))) := by
  pointwise

/-- The mask: zero inside a region, a large negative number across. -/
theorem mask_word (w : Fin 64) (p p' : Fin 49) (z n : EReal) :
    Scalar.select (IntOp.cmpi .ne (IntOp.subi (BitVec.ofNat 32 (regionOf w p')) (BitVec.ofNat 32 (regionOf w p))) 0#32) n z
      = if regionOf w p = regionOf w p' then z else n := by
  have hr : ∀ (w : Fin 64) (p : Fin 49), regionOf w p < 9 := by decide +kernel
  have key : ∀ i j : Fin 9, IntOp.cmpi .ne (IntOp.subi (BitVec.ofNat 32 j.val) (BitVec.ofNat 32 i.val)) 0#32 = if i = j then 0#1 else 1#1 := by decide +kernel
  have h := key ⟨regionOf w p, hr w p⟩ ⟨regionOf w p', hr w p'⟩
  simp only [Fin.mk.injEq] at h
  rw [h]
  split <;> rfl

/-- The mask array. -/
theorem mask_pw (I : IVec S64x49 32) (hI : ∀ (w : Fin 64) (p : Fin 49), I (ix2 w p) = BitVec.ofNat 32 (regionOf w p)) (w : Fin 64) (p p' : Fin 49) :
    (id (select (cmpi .ne (subi (broadcastInDim S64x49x49 ![0, 1, 2] bcast_S64x1x49_S64x49x49_0_1_2 (broadcastInDim S64x1x49 ![0, 2] bcast_S64x49_S64x1x49_0_2 I))
        (broadcastInDim S64x49x49 ![0, 1, 2] bcast_S64x49x1_S64x49x49_0_1_2 (broadcastInDim S64x49x1 ![0, 1] bcast_S64x49_S64x49x1_0_1 I)))
        (broadcastInDim S64x49x49 ![] bcast_S_S64x49x49 (constantI S_ 32 0#32))) (broadcastInDim S64x49x49 ![] bcast_S_S64x49x49 (constant S_ .f32 0xC2C80000#32))
        (broadcastInDim S64x49x49 ![] bcast_S_S64x49x49 (constant S_ .f32 0x00000000#32))) : FVec Ideal S64x49x49 .f32) (ix3 w p p')
      = if regionOf w p = regionOf w p' then Ideal.ofBits .f32 0x00000000#32 else Ideal.ofBits .f32 0xC2C80000#32 := by
  refine Eq.trans ?_ (mask_word w p p' _ _)
  rw [← hI, ← hI]
  simp only [id_eq]
  pointwise

/-- The bias table's rows taken at the words of the relative positions. -/
theorem bias_at (T : FVec Ideal S169x6 .f32) (R : IVec S49x49 32)
    (hR : ∀ p p' : Fin 49, R (ix2 p p') = BitVec.ofNat 32 ((p.val / 7 + 6 - p'.val / 7) * 13 + (p.val % 7 + 6 - p'.val % 7))) (p p' : Fin 49) (h : Fin 6) :
    Host.gather gather_S169x6_S49x49x1_S49x49x6_2_0_n_n_0_2_16 T (broadcastInDim S49x49x1 ![0, 1] bcast_S49x49_S49x49x1_0_1
        (select (cmpi .slt R (broadcastInDim S49x49 ![] bcast_S_S49x49 (constantI S_ 32 0#32))) (addi R (broadcastInDim S49x49 ![] bcast_S_S49x49 (constantI S_ 32 169#32))) R)) (ix3 p p' h)
      = T (ix2 (rel p p') h) := by
  refine (Cert.Take.gather_rows_apply (by decide) _ T _ p p' h).trans ?_
  refine congrArg T (congrArg (fun o => ix2 o h) (Fin.ext ?_))
  have e : (broadcastInDim S49x49x1 ![0, 1] bcast_S49x49_S49x49x1_0_1
        (select (cmpi .slt R (broadcastInDim S49x49 ![] bcast_S_S49x49 (constantI S_ 32 0#32))) (addi R (broadcastInDim S49x49 ![] bcast_S_S49x49 (constantI S_ 32 169#32))) R)) (ix3 p p' 0)
      = Scalar.select (IntOp.cmpi .slt (BitVec.ofNat 32 (rel p p').val) 0#32) (IntOp.addi (BitVec.ofNat 32 (rel p p').val) 169#32) (BitVec.ofNat 32 (rel p p').val) := by
    pointwise
    rw [hR]
    rfl
  show min (BitVec.toInt _).toNat (169 - 1) = (rel p p').val
  rw [e]
  generalize rel p p' = q
  revert q
  decide +kernel

/-- The mixed values from the weights and the values. -/
theorem mix_pw (Q : FVec Ideal S64x64x49x3x6x32 .f32) (E : FVec Ideal S64x64x6x49x49 .f32) (b w : Fin 64) (p : Fin 49) (c : Fin 192) :
    (shapeCast S64x64x49x192 (transpose S64x64x49x6x32 [0, 1, 4, 2, 3] (Host.dotGeneral dot_S64x64x49x6x32_S64x64x6x49x49_S64x64x6x32x49_2_4_4_3_013_012 none
        (shapeCast S64x64x49x6x32 (extractStridedSlice S64x64x49x1x6x32 ![0, 0, 0, 2, 0, 0] Q slices_S64x64x49x3x6x32_S64x64x49x1x6x32_0_0_0_2_0_0) shapeCasts_S64x64x49x1x6x32_S64x64x49x6x32)
        (Host.divf E (broadcastInDim S64x64x6x49x49 ![0, 1, 2, 3, 4] bcast_S64x64x6x49x1_S64x64x6x49x49_0_1_2_3_4 (broadcastInDim S64x64x6x49x1 ![0, 1, 2, 3] bcast_S64x64x6x49_S64x64x6x49x1_0_1_2_3
          (Host.reduceAdd E (constant S_ .f32 0x00000000#32) reducesTo_S64x64x6x49x49_S64x64x6x49_d4 h_S_)))))
        transposes_S64x64x6x32x49_S64x64x49x6x32_0_1_4_2_3) shapeCasts_S64x64x49x6x32_S64x64x49x192 : FVec Ideal S64x64x49x192 .f32) (ix4 b w p c)
      = ∑ q : Fin 49, Q (ix6 b w q 2 ⟨c.val / 32, by omega⟩ ⟨c.val % 32, Nat.mod_lt _ (by omega)⟩)
          * Ideal.div (E (ix5 b w ⟨c.val / 32, by omega⟩ p q)) (∑ q' : Fin 49, E (ix5 b w ⟨c.val / 32, by omega⟩ p q')) := by
  pointwise

/-- The projection, put back in the image. -/
theorem proj_pw (Y : FVec Ideal S64x64x49x192 .f32) (W : FVec Ideal S192x192 .f32) (B : FVec Ideal S192 .f32) (b : Fin 64) (r s : Fin 56) (c : Fin 192) :
    (shapeCast S64x56x56x192 (transpose S64x8x7x8x7x192 [0, 1, 3, 2, 4, 5] (shapeCast S64x8x8x7x7x192 (addf (Host.dotGeneral dot_S64x64x49x192_S192x192_S64x64x49x192_3_0_012_1_n_n none Y W)
      (broadcastInDim S64x64x49x192 ![0, 1, 2, 3] bcast_S1x1x1x192_S64x64x49x192_0_1_2_3 (broadcastInDim S1x1x1x192 ![3] bcast_S192_S1x1x1x192_3 B)))
      shapeCasts_S64x64x49x192_S64x8x8x7x7x192) transposes_S64x8x8x7x7x192_S64x8x7x8x7x192_0_1_3_2_4_5) shapeCasts_S64x8x7x8x7x192_S64x56x56x192 : FVec Ideal S64x56x56x192 .f32) (ix4 b r s c)
      = (∑ x : Fin 192, Y (ix4 b ⟨8 * (r.val / 7) + s.val / 7, by omega⟩ ⟨7 * (r.val % 7) + s.val % 7, by omega⟩ x) * W (ix2 x c)) + B (ix1 c) := by
  pointwise
  simp only [Nat.mul_comm]

/-- The image rolled back by the shift along its two axes. -/
theorem roll_pw (Y : FVec Ideal S64x56x56x192 .f32) (Z : FVec Ideal S64x56x56x192 .f32)
    (hZ : Z = concatenate S64x56x56x192 1 [⟨S64x3x56x192, (extractStridedSlice S64x3x56x192 ![0, 53, 0, 0] Y slices_S64x56x56x192_S64x3x56x192_0_53_0_0)⟩, ⟨S64x53x56x192, (extractStridedSlice S64x53x56x192 ![0, 0, 0, 0] Y slices_S64x56x56x192_S64x53x56x192_0_0_0_0)⟩] concatenates_S64x3x56x192_S64x53x56x192_S64x56x56x192_d1)
    (b : Fin 64) (r s : Fin 56) (c : Fin 192) :
    (concatenate S64x56x56x192 2 [⟨S64x56x3x192, (extractStridedSlice S64x56x3x192 ![0, 0, 53, 0] Z slices_S64x56x56x192_S64x56x3x192_0_0_53_0)⟩, ⟨S64x56x53x192, (extractStridedSlice S64x56x53x192 ![0, 0, 0, 0] Z slices_S64x56x56x192_S64x56x53x192_0_0_0_0)⟩] concatenates_S64x56x3x192_S64x56x53x192_S64x56x56x192_d2 : FVec Ideal S64x56x56x192 .f32) (ix4 b r s c)
      = Y (ix4 b ⟨(r.val + 53) % 56, Nat.mod_lt _ (by omega)⟩ ⟨(s.val + 53) % 56, Nat.mod_lt _ (by omega)⟩ c) := by
  subst hZ
  pointwise
  split <;> split <;> refine congrArg Y (congrArg₂ (fun r s => ix4 b r s c) (Fin.ext ?_) (Fin.ext ?_)) <;> simp only [] <;> omega

end Cert.ReferenceIdeal.Value

end
-- ==== Proof.RefVal.lean ====
/- The reference's composed term read at an index. -/
module

public import proofs.«01_k».proof.Proof.RefQkv
public import proofs.«01_k».proof.Proof.RefOps

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Cert.Swin

variable (V0 : Valuation τ sig (Elt Ideal))

/-- The reference's scores. -/
theorem score_at (b w : Fin 64) (h : Fin 6) (p p' : Fin 49) :
    (res_main_v91 V0 : FVec Ideal S64x64x6x49x49 .f32) (ix5 b w h p p') = score (argX V0) (argW V0) (argB V0) (argT V0) b w h p p' := by
  unfold res_main_v91
  refine (scores_pw (res_main_v75 V0) _ _ b w h p p').trans ?_
  unfold score
  refine congrArg₂ (· + ·) (congrArg₂ (· + ·) (Finset.sum_congr rfl fun d _ => ?_) ?_) ?_
  · rw [qkv_at, qkv_at]
  · exact bias_at (argT V0) (res_main_v23 V0) (rel_word V0) p p' h
  · exact mask_pw (res_main_v57 V0) (region_word V0) w p p'

/-- The reference's weights before they are normalised. -/
theorem exp_at (b w : Fin 64) (h : Fin 6) (p p' : Fin 49) :
    (res_main_v98 V0 : FVec Ideal S64x64x6x49x49 .f32) (ix5 b w h p p') = expAt (argX V0) (argW V0) (argB V0) (argT V0) b w h p p' := by
  unfold res_main_v98
  refine (exps_pw (res_main_v91 V0) _ b w h p p').trans ?_
  have e := top_pw max (res_main_v91 V0) (constant S_ .f32 0xFF800000#32) b w h p
  rw [Finset.fold_congr (g := fun p' => score (argX V0) (argW V0) (argB V0) (argT V0) b w h p p') fun q _ => score_at V0 b w h p q] at e
  exact congrArg₂ (fun s t => Ideal.exp (s - max (Ideal.ofBits .f32 0xFF800000#32) t)) (score_at V0 b w h p p') e

/-- The reference's projected image before it is rolled back. -/
theorem out_at (b : Fin 64) (r s : Fin 56) (c : Fin 192) :
    (res_main_v112 V0 : FVec Ideal S64x56x56x192 .f32) (ix4 b r s c)
      = outAt (argX V0) (argW V0) (argB V0) (argT V0) (argPW V0) (argPB V0) b ⟨8 * (r.val / 7) + s.val / 7, by omega⟩ ⟨7 * (r.val % 7) + s.val % 7, by omega⟩ c := by
  unfold res_main_v112
  refine (proj_pw _ (argPW V0) (argPB V0) b r s c).trans ?_
  unfold outAt
  refine congrArg (· + _) (Finset.sum_congr rfl fun x _ => congrArg (· * _) ?_)
  refine (mix_pw (res_main_v75 V0) (res_main_v98 V0) _ _ _ _).trans ?_
  unfold mixAt
  refine Finset.sum_congr rfl fun q _ => ?_
  rw [qkv_at, exp_at]
  refine congrArg (fun t => _ * Ideal.div _ t) (Finset.sum_congr rfl fun q' _ => exp_at V0 _ _ _ _ _)

/-- The reference's result, read at an index. -/
theorem ref_at (b : Fin 64) (r s : Fin 56) (c : Fin 192) :
    (concatenate S64x56x56x192 2 [⟨S64x56x3x192, (extractStridedSlice S64x56x3x192 ![0, 0, 53, 0] (res_main_call4_v2 V0) slices_S64x56x56x192_S64x56x3x192_0_0_53_0)⟩, ⟨S64x56x53x192, (extractStridedSlice S64x56x53x192 ![0, 0, 0, 0] (res_main_call4_v2 V0) slices_S64x56x56x192_S64x56x53x192_0_0_0_0)⟩] concatenates_S64x56x3x192_S64x56x53x192_S64x56x56x192_d2 : FVec Ideal S64x56x56x192 .f32) (ix4 b r s c)
      = result (argX V0) (argW V0) (argB V0) (argT V0) (argPW V0) (argPB V0) b r s c :=
  (roll_pw (res_main_v112 V0) (res_main_call4_v2 V0) rfl b r s c).trans (out_at V0 _ _ _ _)

end Cert.ReferenceIdeal.Value

end
-- ==== Proof.Algebraic.lean ====
/- The equality of the two programs' results at the ideal instance. -/
module

public import proofs.«01_k».proof.Defs
public import proofs.«01_k».proof.Proof.Finite
public import proofs.«01_k».proof.Proof.WholeVal
public import proofs.«01_k».proof.Proof.RefVal
public import proofs.«01_k».proof.Proof.Gen.KernelIdeal
public import proofs.«01_k».proof.Proof.Gen.ReferenceIdeal
public import Idealize.ShloMosaic.Adequacy
public import Idealize.ShloMosaic.Init

@[expose] public section

set_option maxRecDepth 16384

noncomputable section

namespace Cert.Algebraic

open Idealize.ShloMosaic Idealize.ShloMosaic.TcCoe Idealize.SL.Sem Cert.Swin

/-- The kernel from real arguments ends with the result in its array and its arguments as they were. -/
theorem kernel (m : (ℓ : Loc Cert.KernelIdeal.nD Cert.KernelIdeal.τ Cert.KernelIdeal.sig) → Buf (Elt Ideal) ℓ) (g : Dev Cert.KernelIdeal.nD → PrngReg)
    (hp : @Cert.Pre_KernelIdeal_finite Cert.Pre_finite.facts m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v51) = Cert.KernelIdeal.WholeVal.res m c) :=
  (θ_run _ _ _).mono (fun r h c => ((h c).1 8).trans
      (Cert.KernelIdeal.WholeVal.final m c (Cert.Pre_finite.isReal (hp c)).1 (Cert.Pre_finite.isReal (hp c)).2.1 (Cert.Pre_finite.isReal (hp c)).2.2.1 (Cert.Pre_finite.isReal (hp c)).2.2.2))
    (Cert.KernelIdeal.Whole.run_main (F := Ideal) m g)

/-- The reference's array, of arguments that are the kernel's, is the kernel's result. -/
theorem reference (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    ∀ v, v = Cert.ReferenceIdeal.Value.val3 (F := Ideal) (StableHlo.launchContents m' c) (Proc.devRef .tc Cert.ReferenceIdeal.main_v113) → v = Cert.KernelIdeal.WholeVal.res m c := by
  intro v hv
  rw [hv, Cert.ReferenceIdeal.Value.val3_main_v113]
  funext i
  have hi : i = ix4 (i 0) (i 1) (i 2) (i 3) := by
    funext a
    match a with
    | 0 => rfl
    | 1 => rfl
    | 2 => rfl
    | 3 => rfl
  have e0 : Cert.ReferenceIdeal.Value.argX (StableHlo.launchContents m' c) = Cert.KernelIdeal.WholeVal.aX m c := h0
  have e1 : Cert.ReferenceIdeal.Value.argW (StableHlo.launchContents m' c) = Cert.KernelIdeal.WholeVal.aW m c := h1
  have e2 : Cert.ReferenceIdeal.Value.argB (StableHlo.launchContents m' c) = Cert.KernelIdeal.WholeVal.aB m c := h2
  have e3 : Cert.ReferenceIdeal.Value.argPW (StableHlo.launchContents m' c) = Cert.KernelIdeal.WholeVal.aPW m c := h3
  have e4 : Cert.ReferenceIdeal.Value.argPB (StableHlo.launchContents m' c) = Cert.KernelIdeal.WholeVal.aPB m c := h4
  have e5 : Cert.ReferenceIdeal.Value.argT (StableHlo.launchContents m' c) = Cert.KernelIdeal.WholeVal.aT m c := h5
  have h := Cert.ReferenceIdeal.Value.ref_at (StableHlo.launchContents m' c) (i 0) (i 1) (i 2) (i 3)
  rw [e0, e1, e2, e3, e4, e5] at h
  exact (congrArg _ hi).trans h

/-- THE EQUATION: from the same finite arguments the kernel and the reference end with the same array. -/
theorem algebraic : @Cert.algebraic_KernelIdeal_ReferenceIdeal_pre_finite Cert.KernelIdeal.Gen.facts Cert.ReferenceIdeal.Gen.facts Cert.Pre_finite.facts := by
  intro m g m' g' hp ha
  refine ⟨fun c => Cert.KernelIdeal.WholeVal.res m c, ?_, ?_⟩
  · exact (θ_run _ _ _).mono (fun r h c => ⟨h.1 c, h.2 c⟩) (θ_run_and (kernel m g hp) (Cert.KernelIdeal.Whole.unchanged (F := Ideal) m g))
  · refine (θ_run _ _ _).mono (fun r h c => ⟨?_, (h c).2⟩) (Cert.ReferenceIdeal.Value.run (F := Ideal) m' g')
    obtain ⟨h0, h1, h2, h3, h4, h5⟩ := ha c
    exact reference m m' c h0 h1 h2 h3 h4 h5 _ ((h c).1.trans (Cert.ReferenceIdeal.Value.val3_main_v113 _).symm)

end Cert.Algebraic

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.facts,
    fun m ρ _ => Cert.Kernel.Whole.frame m ρ,
    fun m ρ _ => Cert.KernelIdeal.Whole.frame m ρ,
    fun m ρ _ => Cert.KernelIdeal.Whole.frame m ρ,
    Cert.Frames.referenceIdeal,
    fun m ρ _ => Cert.Frames.referenceIdeal m ρ trivial,
    trivial,
    Cert.Algebraic.algebraic⟩

end Cert.Proof

end
